-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 2048]⟩ ⟨2, ![512, 4096]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![512, 4096]⟩ (Layout.meshBlock [2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S512x512 : Shape := ⟨2, ![512, 512]⟩
abbrev S256x512 : Shape := ⟨2, ![256, 512]⟩
abbrev S16 : Shape := ⟨1, ![16]⟩
abbrev S_ : Shape := ⟨0, ![]⟩
abbrev S256x2048 : Shape := ⟨2, ![256, 2048]⟩
abbrev S1 : Shape := ⟨1, ![1]⟩
abbrev S16x512 : Shape := ⟨2, ![16, 512]⟩

abbrev nBuf : Space → Nat
  | .hbm => 3
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x512, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v17 : BitVec 32 := Scalar.muli v2 c256_i32
  let v18 : Index := Scalar.indexCast v17
  let c0 : Index := 0#32
  ![v18.toNat, 0]
def k0_dev3 (d0 : Dev nD) : Nat :=
  let c0_i32_19 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_18 : BitVec 32 := 2#32
  let v27 : BitVec 32 := Scalar.muli v2 c2_i32_18
  let v28 : BitVec 32 := Scalar.addi c0_i32_19 v27
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_20 : BitVec 32 := 1#32
  let v29 : BitVec 32 := Scalar.muli v6 c1_i32_20
  let v30 : BitVec 32 := Scalar.addi v28 v29
  v30.toNat
def k0_dev4 (d0 : Dev nD) : Nat :=
  let c0_i32_28 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_27 : BitVec 32 := 2#32
  let v37 : BitVec 32 := Scalar.muli v2 c2_i32_27
  let v38 : BitVec 32 := Scalar.addi c0_i32_28 v37
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_29 : BitVec 32 := 1#32
  let v39 : BitVec 32 := Scalar.muli v6 c1_i32_29
  let v40 : BitVec 32 := Scalar.addi v38 v39
  v40.toNat
def k0_dev5 (d0 : Dev nD) : Nat :=
  let c0_i32_36 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_35 : BitVec 32 := 2#32
  let v47 : BitVec 32 := Scalar.muli v2 c2_i32_35
  let v48 : BitVec 32 := Scalar.addi c0_i32_36 v47
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_37 : BitVec 32 := 1#32
  let v49 : BitVec 32 := Scalar.muli v6 c1_i32_37
  let v50 : BitVec 32 := Scalar.addi v48 v49
  v50.toNat
def k0_dev6 (d0 : Dev nD) : Nat :=
  let c0_i32_43 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_42 : BitVec 32 := 2#32
  let v57 : BitVec 32 := Scalar.muli v2 c2_i32_42
  let v58 : BitVec 32 := Scalar.addi c0_i32_43 v57
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_44 : BitVec 32 := 1#32
  let v59 : BitVec 32 := Scalar.muli v6 c1_i32_44
  let v60 : BitVec 32 := Scalar.addi v58 v59
  v60.toNat
def k0_dev7 (d0 : Dev nD) : Nat :=
  let c0_i32_50 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_49 : BitVec 32 := 2#32
  let v67 : BitVec 32 := Scalar.muli v2 c2_i32_49
  let v68 : BitVec 32 := Scalar.addi c0_i32_50 v67
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_51 : BitVec 32 := 1#32
  let v69 : BitVec 32 := Scalar.muli v6 c1_i32_51
  let v70 : BitVec 32 := Scalar.addi v68 v69
  v70.toNat
def k0_dev8 (d0 : Dev nD) : Nat :=
  let c0_i32_57 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_56 : BitVec 32 := 2#32
  let v77 : BitVec 32 := Scalar.muli v2 c2_i32_56
  let v78 : BitVec 32 := Scalar.addi c0_i32_57 v77
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_58 : BitVec 32 := 1#32
  let v79 : BitVec 32 := Scalar.muli v6 c1_i32_58
  let v80 : BitVec 32 := Scalar.addi v78 v79
  v80.toNat
def k0_dev9 (d0 : Dev nD) : Nat :=
  let c0_i32_64 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_63 : BitVec 32 := 2#32
  let v87 : BitVec 32 := Scalar.muli v2 c2_i32_63
  let v88 : BitVec 32 := Scalar.addi c0_i32_64 v87
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_65 : BitVec 32 := 1#32
  let v89 : BitVec 32 := Scalar.muli v6 c1_i32_65
  let v90 : BitVec 32 := Scalar.addi v88 v89
  v90.toNat
def k0_dev10 (d0 : Dev nD) : Nat :=
  let c0_i32_71 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_70 : BitVec 32 := 2#32
  let v97 : BitVec 32 := Scalar.muli v2 c2_i32_70
  let v98 : BitVec 32 := Scalar.addi c0_i32_71 v97
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_72 : BitVec 32 := 1#32
  let v99 : BitVec 32 := Scalar.muli v6 c1_i32_72
  let v100 : BitVec 32 := Scalar.addi v98 v99
  v100.toNat
def k0_dev11 (d0 : Dev nD) : Nat :=
  let c0_i32_78 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_77 : BitVec 32 := 2#32
  let v107 : BitVec 32 := Scalar.muli v2 c2_i32_77
  let v108 : BitVec 32 := Scalar.addi c0_i32_78 v107
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_79 : BitVec 32 := 1#32
  let v109 : BitVec 32 := Scalar.muli v6 c1_i32_79
  let v110 : BitVec 32 := Scalar.addi v108 v109
  v110.toNat
def k0_dev12 (d0 : Dev nD) : Nat :=
  let c0_i32_85 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_84 : BitVec 32 := 2#32
  let v117 : BitVec 32 := Scalar.muli v2 c2_i32_84
  let v118 : BitVec 32 := Scalar.addi c0_i32_85 v117
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_86 : BitVec 32 := 1#32
  let v119 : BitVec 32 := Scalar.muli v6 c1_i32_86
  let v120 : BitVec 32 := Scalar.addi v118 v119
  v120.toNat
def k0_dev13 (d0 : Dev nD) : Nat :=
  let c0_i32_92 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_91 : BitVec 32 := 2#32
  let v127 : BitVec 32 := Scalar.muli v2 c2_i32_91
  let v128 : BitVec 32 := Scalar.addi c0_i32_92 v127
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_93 : BitVec 32 := 1#32
  let v129 : BitVec 32 := Scalar.muli v6 c1_i32_93
  let v130 : BitVec 32 := Scalar.addi v128 v129
  v130.toNat
def k0_dev14 (d0 : Dev nD) : Nat :=
  let c0_i32_99 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_98 : BitVec 32 := 2#32
  let v137 : BitVec 32 := Scalar.muli v2 c2_i32_98
  let v138 : BitVec 32 := Scalar.addi c0_i32_99 v137
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_100 : BitVec 32 := 1#32
  let v139 : BitVec 32 := Scalar.muli v6 c1_i32_100
  let v140 : BitVec 32 := Scalar.addi v138 v139
  v140.toNat
def k0_dev15 (d0 : Dev nD) : Nat :=
  let c0_i32_106 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_105 : BitVec 32 := 2#32
  let v147 : BitVec 32 := Scalar.muli v2 c2_i32_105
  let v148 : BitVec 32 := Scalar.addi c0_i32_106 v147
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_107 : BitVec 32 := 1#32
  let v149 : BitVec 32 := Scalar.muli v6 c1_i32_107
  let v150 : BitVec 32 := Scalar.addi v148 v149
  v150.toNat
def k0_dev16 (d0 : Dev nD) : Nat :=
  let c0_i32_113 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_112 : BitVec 32 := 2#32
  let v157 : BitVec 32 := Scalar.muli v2 c2_i32_112
  let v158 : BitVec 32 := Scalar.addi c0_i32_113 v157
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_114 : BitVec 32 := 1#32
  let v159 : BitVec 32 := Scalar.muli v6 c1_i32_114
  let v160 : BitVec 32 := Scalar.addi v158 v159
  v160.toNat
def k0_dev17 (d0 : Dev nD) : Nat :=
  let c0_i32_120 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_119 : BitVec 32 := 2#32
  let v167 : BitVec 32 := Scalar.muli v2 c2_i32_119
  let v168 : BitVec 32 := Scalar.addi c0_i32_120 v167
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_121 : BitVec 32 := 1#32
  let v169 : BitVec 32 := Scalar.muli v6 c1_i32_121
  let v170 : BitVec 32 := Scalar.addi v168 v169
  v170.toNat
def k0_dev18 (d0 : Dev nD) : Nat :=
  let c0_i32_127 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_126 : BitVec 32 := 2#32
  let v177 : BitVec 32 := Scalar.muli v2 c2_i32_126
  let v178 : BitVec 32 := Scalar.addi c0_i32_127 v177
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_128 : BitVec 32 := 1#32
  let v179 : BitVec 32 := Scalar.muli v6 c1_i32_128
  let v180 : BitVec 32 := Scalar.addi v178 v179
  v180.toNat
def k0_dev19 (d0 : Dev nD) : Nat :=
  let c0_i32_150 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_149 : BitVec 32 := 2#32
  let v201 : BitVec 32 := Scalar.muli v7 c2_i32_149
  let v202 : BitVec 32 := Scalar.addi c0_i32_150 v201
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_151 : BitVec 32 := 1#32
  let v203 : BitVec 32 := Scalar.muli v5 c1_i32_151
  let v204 : BitVec 32 := Scalar.addi v202 v203
  v204.toNat
def k0_off2 (d0 : Dev nD) (c0_i32_158 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v17 : BitVec 32 := Scalar.muli v2 c256_i32
  let v212 : BitVec 32 := Scalar.addi v17 c0_i32_158
  let v213 : Index := Scalar.indexCast v212
  let c0_159 : Index := 0#32
  ![v213.toNat, 0]
def k0_dev20 (d0 : Dev nD) : Nat :=
  let c0_i32_177 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_176 : BitVec 32 := 2#32
  let v229 : BitVec 32 := Scalar.muli v7 c2_i32_176
  let v230 : BitVec 32 := Scalar.addi c0_i32_177 v229
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_178 : BitVec 32 := 1#32
  let v231 : BitVec 32 := Scalar.muli v5 c1_i32_178
  let v232 : BitVec 32 := Scalar.addi v230 v231
  v232.toNat
def k0_dev21 (d0 : Dev nD) : Nat :=
  let c0_i32_204 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_203 : BitVec 32 := 2#32
  let v257 : BitVec 32 := Scalar.muli v7 c2_i32_203
  let v258 : BitVec 32 := Scalar.addi c0_i32_204 v257
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_205 : BitVec 32 := 1#32
  let v259 : BitVec 32 := Scalar.muli v5 c1_i32_205
  let v260 : BitVec 32 := Scalar.addi v258 v259
  v260.toNat
def k0_dev22 (d0 : Dev nD) : Nat :=
  let c0_i32_231 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_230 : BitVec 32 := 2#32
  let v285 : BitVec 32 := Scalar.muli v7 c2_i32_230
  let v286 : BitVec 32 := Scalar.addi c0_i32_231 v285
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_232 : BitVec 32 := 1#32
  let v287 : BitVec 32 := Scalar.muli v5 c1_i32_232
  let v288 : BitVec 32 := Scalar.addi v286 v287
  v288.toNat
def k0_dev23 (d0 : Dev nD) : Nat :=
  let c0_i32_258 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_257 : BitVec 32 := 2#32
  let v313 : BitVec 32 := Scalar.muli v7 c2_i32_257
  let v314 : BitVec 32 := Scalar.addi c0_i32_258 v313
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_259 : BitVec 32 := 1#32
  let v315 : BitVec 32 := Scalar.muli v5 c1_i32_259
  let v316 : BitVec 32 := Scalar.addi v314 v315
  v316.toNat
def k0_dev24 (d0 : Dev nD) : Nat :=
  let c0_i32_285 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_284 : BitVec 32 := 2#32
  let v341 : BitVec 32 := Scalar.muli v7 c2_i32_284
  let v342 : BitVec 32 := Scalar.addi c0_i32_285 v341
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_286 : BitVec 32 := 1#32
  let v343 : BitVec 32 := Scalar.muli v5 c1_i32_286
  let v344 : BitVec 32 := Scalar.addi v342 v343
  v344.toNat
def k0_dev25 (d0 : Dev nD) : Nat :=
  let c0_i32_312 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_311 : BitVec 32 := 2#32
  let v369 : BitVec 32 := Scalar.muli v7 c2_i32_311
  let v370 : BitVec 32 := Scalar.addi c0_i32_312 v369
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_313 : BitVec 32 := 1#32
  let v371 : BitVec 32 := Scalar.muli v5 c1_i32_313
  let v372 : BitVec 32 := Scalar.addi v370 v371
  v372.toNat
def k0_dev26 (d0 : Dev nD) : Nat :=
  let c0_i32_339 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_338 : BitVec 32 := 2#32
  let v397 : BitVec 32 := Scalar.muli v7 c2_i32_338
  let v398 : BitVec 32 := Scalar.addi c0_i32_339 v397
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_340 : BitVec 32 := 1#32
  let v399 : BitVec 32 := Scalar.muli v5 c1_i32_340
  let v400 : BitVec 32 := Scalar.addi v398 v399
  v400.toNat
def k0_dev27 (d0 : Dev nD) : Nat :=
  let c0_i32_366 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_365 : BitVec 32 := 2#32
  let v425 : BitVec 32 := Scalar.muli v7 c2_i32_365
  let v426 : BitVec 32 := Scalar.addi c0_i32_366 v425
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_367 : BitVec 32 := 1#32
  let v427 : BitVec 32 := Scalar.muli v5 c1_i32_367
  let v428 : BitVec 32 := Scalar.addi v426 v427
  v428.toNat
def k0_dev28 (d0 : Dev nD) : Nat :=
  let c0_i32_393 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_392 : BitVec 32 := 2#32
  let v453 : BitVec 32 := Scalar.muli v7 c2_i32_392
  let v454 : BitVec 32 := Scalar.addi c0_i32_393 v453
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_394 : BitVec 32 := 1#32
  let v455 : BitVec 32 := Scalar.muli v5 c1_i32_394
  let v456 : BitVec 32 := Scalar.addi v454 v455
  v456.toNat
def k0_dev29 (d0 : Dev nD) : Nat :=
  let c0_i32_420 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_419 : BitVec 32 := 2#32
  let v481 : BitVec 32 := Scalar.muli v7 c2_i32_419
  let v482 : BitVec 32 := Scalar.addi c0_i32_420 v481
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_421 : BitVec 32 := 1#32
  let v483 : BitVec 32 := Scalar.muli v5 c1_i32_421
  let v484 : BitVec 32 := Scalar.addi v482 v483
  v484.toNat
def k0_dev30 (d0 : Dev nD) : Nat :=
  let c0_i32_447 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_446 : BitVec 32 := 2#32
  let v509 : BitVec 32 := Scalar.muli v7 c2_i32_446
  let v510 : BitVec 32 := Scalar.addi c0_i32_447 v509
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_448 : BitVec 32 := 1#32
  let v511 : BitVec 32 := Scalar.muli v5 c1_i32_448
  let v512 : BitVec 32 := Scalar.addi v510 v511
  v512.toNat
def k0_dev31 (d0 : Dev nD) : Nat :=
  let c0_i32_474 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_473 : BitVec 32 := 2#32
  let v537 : BitVec 32 := Scalar.muli v7 c2_i32_473
  let v538 : BitVec 32 := Scalar.addi c0_i32_474 v537
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_475 : BitVec 32 := 1#32
  let v539 : BitVec 32 := Scalar.muli v5 c1_i32_475
  let v540 : BitVec 32 := Scalar.addi v538 v539
  v540.toNat
def k0_dev32 (d0 : Dev nD) : Nat :=
  let c0_i32_501 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_500 : BitVec 32 := 2#32
  let v565 : BitVec 32 := Scalar.muli v7 c2_i32_500
  let v566 : BitVec 32 := Scalar.addi c0_i32_501 v565
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_502 : BitVec 32 := 1#32
  let v567 : BitVec 32 := Scalar.muli v5 c1_i32_502
  let v568 : BitVec 32 := Scalar.addi v566 v567
  v568.toNat
def k0_dev33 (d0 : Dev nD) : Nat :=
  let c0_i32_528 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_527 : BitVec 32 := 2#32
  let v593 : BitVec 32 := Scalar.muli v7 c2_i32_527
  let v594 : BitVec 32 := Scalar.addi c0_i32_528 v593
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_529 : BitVec 32 := 1#32
  let v595 : BitVec 32 := Scalar.muli v5 c1_i32_529
  let v596 : BitVec 32 := Scalar.addi v594 v595
  v596.toNat
def k0_dev34 (d0 : Dev nD) : Nat :=
  let c0_i32_555 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_554 : BitVec 32 := 2#32
  let v621 : BitVec 32 := Scalar.muli v7 c2_i32_554
  let v622 : BitVec 32 := Scalar.addi c0_i32_555 v621
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_556 : BitVec 32 := 1#32
  let v623 : BitVec 32 := Scalar.muli v5 c1_i32_556
  let v624 : BitVec 32 := Scalar.addi v622 v623
  v624.toNat
def k0_off3 (d0 : Dev nD) (c0_i32_578 : BitVec 32) : Fin 2 → Nat :=
  let c1_i32_576 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v644 : BitVec 32 := Scalar.subi c1_i32_576 v2
  let c256_i32_577 : BitVec 32 := 256#32
  let v645 : BitVec 32 := Scalar.muli v644 c256_i32_577
  let v646 : BitVec 32 := Scalar.addi v645 c0_i32_578
  let v647 : Index := Scalar.indexCast v646
  let c0_579 : Index := 0#32
  ![v647.toNat, 0]
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x4096 : Shape := ⟨2, ![512, 4096]⟩
abbrev S4096x512 : Shape := ⟨2, ![4096, 512]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S4096x512, .f32⟩
  | .hbm, ⟨3, _⟩ => ⟨S512x512, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Loops.lean ====
/-
  The kernel's body as a prologue and four loops over the sixteen row slices, and the equation with
  the printed body.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The memrefs, the slices and the semaphores -/

abbrev dyM : Memref sig .tc .vmem S512x2048 .f32 := Memref.whole cc0_stg0_0
abbrev wM : Memref sig .tc .vmem S512x2048 .f32 := Memref.whole cc0_stg1_0
abbrev outM : Memref sig .tc .vmem S512x512 .f32 := Memref.whole cc0_stg2_0
abbrev pM : Memref sig .tc .vmem S256x512 .f32 := Memref.whole cc0_scratch0
abbrev qM : Memref sig .tc .vmem S256x512 .f32 := Memref.whole cc0_scratch1
abbrev r1M : Memref sig .tc .vmem S256x512 .f32 := Memref.whole cc0_scratch2
abbrev r2M : Memref sig .tc .vmem S256x512 .f32 := Memref.whole cc0_scratch3

/-- The row slice `k` (rows `16 k` to `16 k + 15`) of a 256×512 buffer lies in it. -/
theorem slice_inb (k : Fin 16) : ∀ a, (![16 * k.val, 0] : Fin 2 → Nat) a + S16x512.size a ≤ S256x512.size a := by
  revert k; decide
theorem sem_inb (k : Fin 16) : ∀ a, (![k.val] : Fin 1 → Nat) a + S1.size a ≤ S16.size a := by
  revert k; decide

/-- The rectangle of row slice `k`. -/
abbrev rowR (k : Fin 16) : Rect S256x512 := Rect.unit (s := S256x512) ![16 * k.val, 0] S16x512.size (slice_inb k)
/-- Row slice `k` of a 256×512 buffer, as a memref. -/
abbrev rows (M : Memref sig .tc .vmem S256x512 .f32) (k : Fin 16) : Memref sig .tc .vmem S16x512 .f32 :=
  M.slice (rowR k) (fun _ => rfl)
/-- The `k`th semaphore of an array of sixteen. -/
abbrev semAt (a : DmaSems sig S16) (k : Fin 16) : DmaSem sig :=
  ((a.slice (Rect.unit (s := S16) ![k.val] S1.size (sem_inb k))).squeeze S_ squeezes_S1_S_).sem

/-- The barrier semaphore of the entry handshake. -/
abbrev barS : Sem sig := (SemArray.scalar (sig.barrier 0 rfl) : Sems sig S_).sem

/-- The rectangle of rows of the result a device's own slice `k` goes to, -/
abbrev ownR (c : Dev nD) (k : Fin 16) : Rect S512x512 :=
  Rect.unit (s := S512x512) (k0_off2 c (BitVec.ofNat 32 (16 * k.val))) S16x512.size (k0_off2_inb c k)
/-- and the one its row neighbour's slice `k` goes to. -/
abbrev othR (c : Dev nD) (k : Fin 16) : Rect S512x512 :=
  Rect.unit (s := S512x512) (k0_off3 c (BitVec.ofNat 32 (16 * k.val))) S16x512.size (k0_off3_inb c k)

/-! ## The program -/

abbrev PT (F : FTy → Type) : Type → Type 1 := Prog (TpuEff nD τ sig (Elt F) Λ₀ .tc)

/-- The statements `f k` for the `k` of a list, in order. -/
def forEach (f : Fin 16 → PT F PUnit) : List (Fin 16) → PT F PUnit
  | [] => pure ⟨⟩
  | k :: ks => f k >>= fun _ => forEach f ks

/-- The handshake's two signals, the device's own partial product, and the handshake's wait. -/
def prologue (c : Dev nD) : PT F PUnit := do
  semSignalWord (⟨k0_dev1 c, k0_dev1_lt c⟩ : Dev nD) barS 1#32
  semSignalWord (⟨k0_dev2 c, k0_dev2_lt c⟩ : Dev nD) barS 1#32
  let a : Vec F S256x2048 .f32 ← Prog.lift (.load dyM (Rect.unit (s := S512x2048) (k0_off1 c) S256x2048.size (k0_off1_inb c)).toLoadRect (View.loadsAt_vmem h_S256x2048))
  let b : Vec F S512x2048 .f32 ← Prog.lift (.load wM (Rect.unit (s := S512x2048) ![0, 0] S512x2048.size inb_S512x2048_S512x2048_0_0).toLoadRect (View.loadsAt_vmem h_S512x2048))
  let _ : Vec F S256x512 .f32 ← Prog.lift (.load pM (Rect.unit (s := S256x512) ![0, 0] S256x512.size inb_S256x512_S256x512_0_0).toLoadRect (View.loadsAt_vmem h_S256x512))
  Prog.lift (.store pM (Rect.unit (s := S256x512) ![0, 0] S256x512.size inb_S256x512_S256x512_0_0) (k0_pay1 a b) Finset.univ (View.stores_vmem_bits_univ h_S256x512 rfl) (.inl rfl))
  semWaitWord barS 2#32

/-- Slice `k` of the partial product, sent to the device at the other `y`. -/
def send1 (c : Dev nD) (k : Fin 16) : PT F PUnit :=
  Prog.lift (.enqueueDma (rows pM k) (.remote (Dev.tc (⟨k0_dev3 c, k0_dev3_lt c⟩ : Dev nD)) (rows r1M k) (.dma (semAt cc0_scratch4 k))) (.dma (semAt cc0_scratch5 k)) (View.wordExact_bits rfl) (View.wordExact_bits rfl) ⟨⟨rfl, Or.inl rfl⟩, trivial⟩)

/-- Slice `k` of the partner's partial product awaited and added; the sum sent to the device at the other `x` and
    written to the result's rows. -/
def step (c : Dev nD) (k : Fin 16) : PT F PUnit := do
  Prog.lift (.waitDma2 (semAt cc0_scratch5 k) (rows pM k) (rows r1M k) (View.wordExact_bits rfl) (View.wordExact_bits rfl))
  let a : Vec F S16x512 .f32 ← Prog.lift (.load pM (rowR k).toLoadRect (View.loadsAt_vmem h_S16x512))
  let b : Vec F S16x512 .f32 ← Prog.lift (.load r1M (rowR k).toLoadRect (View.loadsAt_vmem h_S16x512))
  let _ : Vec F S16x512 .f32 ← Prog.lift (.load qM (rowR k).toLoadRect (View.loadsAt_vmem h_S16x512))
  Prog.lift (.store qM (rowR k) (k0_pay2 a b) Finset.univ (View.stores_vmem_bits_univ h_S16x512 rfl) (.inl rfl))
  Prog.lift (.enqueueDma (rows qM k) (.remote (Dev.tc (⟨k0_dev19 c, k0_dev19_lt c⟩ : Dev nD)) (rows r2M k) (.dma (semAt cc0_scratch6 k))) (.dma (semAt cc0_scratch7 k)) (View.wordExact_bits rfl) (View.wordExact_bits rfl) ⟨⟨rfl, Or.inl rfl⟩, trivial⟩)
  let s : Vec F S16x512 .f32 ← Prog.lift (.load qM (rowR k).toLoadRect (View.loadsAt_vmem h_S16x512))
  let _ : Vec F S16x512 .f32 ← Prog.lift (.load outM (ownR c k).toLoadRect (View.loadsAt_vmem h_S16x512))
  Prog.lift (.store outM (ownR c k) s Finset.univ (View.stores_vmem_bits_univ h_S16x512 rfl) (.inl rfl))

/-- Slice `k` of the other `x`'s sum awaited and written to the result's rows. -/
def gather (c : Dev nD) (k : Fin 16) : PT F PUnit := do
  Prog.lift (.waitDma2 (semAt cc0_scratch7 k) (rows qM k) (rows r2M k) (View.wordExact_bits rfl) (View.wordExact_bits rfl))
  let s : Vec F S16x512 .f32 ← Prog.lift (.load r2M (rowR k).toLoadRect (View.loadsAt_vmem h_S16x512))
  let _ : Vec F S16x512 .f32 ← Prog.lift (.load outM (othR c k).toLoadRect (View.loadsAt_vmem h_S16x512))
  Prog.lift (.store outM (othR c k) s Finset.univ (View.stores_vmem_bits_univ h_S16x512 rfl) (.inl rfl))

/-- The two copies of slice `k` awaited at their source. -/
def drain (k : Fin 16) : PT F PUnit := do
  Prog.lift (.waitDma2 (semAt cc0_scratch4 k) (rows r1M k) (rows pM k) (View.wordExact_bits rfl) (View.wordExact_bits rfl))
  Prog.lift (.waitDma2 (semAt cc0_scratch6 k) (rows r2M k) (rows qM k) (View.wordExact_bits rfl) (View.wordExact_bits rfl))

/-- The sixteen slices, in the kernel's order. -/
def slices : List (Fin 16) := [0, 1, 2, 3, 4, 5, 6, 7, 8, 9, 10, 11, 12, 13, 14, 15]

/-- The body on device `c`: the prologue and the four loops. -/
def bodyOn (c : Dev nD) : PT F PUnit := do
  prologue c
  forEach (send1 c) slices
  forEach (step c) slices
  forEach (gather c) slices
  forEach drain slices

set_option maxRecDepth 65536 in
/-- The printed body reads its device and runs `bodyOn` there. -/
theorem body_eq : cc0_body (F := F) dyM (Memref.isWhole_whole _) wM (Memref.isWhole_whole _) outM (Memref.isWhole_whole _)
      pM (Memref.isWhole_whole _) qM (Memref.isWhole_whole _) r1M (Memref.isWhole_whole _) r2M (Memref.isWhole_whole _)
      cc0_scratch4 cc0_scratch5 cc0_scratch6 cc0_scratch7
    = (Prog.lift .deviceId >>= fun c => bodyOn c) := by
  chain_rfl

end Cert.KernelIdealProof

end
-- ==== Proof.KernelIdeal.Slices.lean ====
/-
  The row slices: how they divide their buffers, and the rules for a load, a store and a copy of one owned slice.
-/
module

public import proofs.«01_k».proof.Proof.KernelIdeal.Loops
public import Idealize.ShloMosaic.Lib.MemrefSat
public import Idealize.ShloMosaic.Lib.Pipeline.BigSepL

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds' resource algebra of this kernel (duty names `Bool`), -/
abbrev UB : Type := URounds (GSem nD τ sig) Bool
/-- beside the staging pipeline's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- A program of device `c`, run to the postcondition `Q`. -/
abbrev WP (c : Dev nD) {α : Type} (p : PT F α) (Q : α → sProp 𝕄) : sProp 𝕄 :=
  wp frame (wpE (defs₀ (F := F)) 𝒱₀ (c : Thread nD τ) none) Set.univ p Q

/-! ## Geometry -/

/-- Row slice `k` of the contents of a 256×512 buffer. -/
def sl (X : Vec F S256x512 .f32) (k : Fin 16) : Vec F S16x512 .f32 := fun j => X ((rowR k).emb j)

/-- Different row slices share no element, -/
theorem rowR_disjoint (k k' : Fin 16) (h : k ≠ k') : Disjoint (rowR k).set (rowR k').set := by
  rw [Finset.disjoint_left]; intro i hi hi'
  have h1 := Rect.mem_set_unit.mp hi 0
  have h2 := Rect.mem_set_unit.mp hi' 0
  have h3 : k.val ≠ k'.val := fun e => h (Fin.ext e)
  simp only [Matrix.cons_val_zero, show S16x512.size 0 = 16 from rfl] at h1 h2
  omega

/-- and the sixteen cover the buffer. -/
theorem rowR_cover : (Finset.univ : Finset (Fin 16)).biUnion (fun k => (rowR k).set) = Finset.univ := by
  refine Finset.eq_univ_iff_forall.mpr fun i => ?_
  have h0 : (i 0).val < 256 := (i 0).isLt
  have h1 : (i 1).val < 512 := (i 1).isLt
  refine Finset.mem_biUnion.mpr ⟨⟨(i 0).val / 16, by omega⟩, Finset.mem_univ _, Rect.mem_set_unit.mpr fun a => ?_⟩
  match a with
  | 0 => simp only [Matrix.cons_val_zero, show S16x512.size 0 = 16 from rfl]; omega
  | 1 => show 0 ≤ (i 1).val ∧ (i 1).val < 0 + 512; omega

/-- A 256×512 buffer owned whole is its sixteen row slices, -/
theorem rows_split (c : Dev nD) (M : Memref sig .tc .vmem S256x512 .f32) (q : PosShare TreeShare) (X : Vec F S256x512 .f32) :
    (owns (c : Thread nD τ) M q X : sProp 𝕄) ⊢ bigSepL slices fun k => owns (c : Thread nD τ) (rows M k) q (sl X k) := by
  rw [← bigSep_univ_eq_bigSepL slices (by decide) (by decide)]
  exact owns_rects (c : Thread nD τ) M q rowR (fun _ _ => rfl) rowR_disjoint rowR_cover X

/-- and back. -/
theorem rows_join (c : Dev nD) (M : Memref sig .tc .vmem S256x512 .f32) (q : PosShare TreeShare) (X : Vec F S256x512 .f32) :
    (bigSepL slices fun k => owns (c : Thread nD τ) (rows M k) q (sl X k)) ⊢ (owns (c : Thread nD τ) M q X : sProp 𝕄) := by
  rw [← bigSep_univ_eq_bigSepL slices (by decide) (by decide)]
  exact owns_of_rects (c : Thread nD τ) M q rowR (fun _ _ => rfl) rowR_disjoint rowR_cover X

/-- The result's row slices on device `c`: the slices of its own rows, then those of the other rows. -/
def outR (c : Dev nD) : Fin 16 ⊕ Fin 16 → Rect S512x512
  | .inl k => ownR c k
  | .inr k => othR c k

theorem outR_stride (c : Dev nD) (t : Fin 16 ⊕ Fin 16) : ∀ a, (outR c t).stride a = 1 := by
  cases t <;> exact fun _ => rfl

/-- The number of the block of sixteen rows that a slice of the result is. -/
def outBlk (c : Dev nD) : Fin 16 ⊕ Fin 16 → ℕ
  | .inl k => 16 * (c.val / 2) + k.val
  | .inr k => 16 * (1 - c.val / 2) + k.val

theorem mem_outR (c : Dev nD) (t : Fin 16 ⊕ Fin 16) (i : S512x512.Idx) : i ∈ (outR c t).set ↔ (i 0).val / 16 = outBlk c t := by
  have hc : c.val < 4 := c.isLt
  have h1 : (i 1).val < 512 := (i 1).isLt
  cases t with
  | inl k =>
    have hk := k.isLt
    have he := k0_off2_eq c k
    show i ∈ (ownR c k).set ↔ _
    rw [Rect.mem_set_unit, he]
    constructor
    · intro h; have h0 := h 0
      simp only [Matrix.cons_val_zero, show S16x512.size 0 = 16 from rfl] at h0
      simp only [outBlk]; omega
    · intro h a; simp only [outBlk] at h
      match a with
      | 0 => simp only [Matrix.cons_val_zero, show S16x512.size 0 = 16 from rfl]; omega
      | 1 => show 0 ≤ (i 1).val ∧ (i 1).val < 0 + 512; omega
  | inr k =>
    have hk := k.isLt
    have he := k0_off3_eq c k
    show i ∈ (othR c k).set ↔ _
    rw [Rect.mem_set_unit, he]
    constructor
    · intro h; have h0 := h 0
      simp only [Matrix.cons_val_zero, show S16x512.size 0 = 16 from rfl] at h0
      simp only [outBlk]; omega
    · intro h a; simp only [outBlk] at h
      match a with
      | 0 => simp only [Matrix.cons_val_zero, show S16x512.size 0 = 16 from rfl]; omega
      | 1 => show 0 ≤ (i 1).val ∧ (i 1).val < 0 + 512; omega

theorem outR_disjoint (c : Dev nD) (t t' : Fin 16 ⊕ Fin 16) (h : t ≠ t') : Disjoint (outR c t).set (outR c t').set := by
  rw [Finset.disjoint_left]; intro i hi hi'
  have hh := ((mem_outR c t i).mp hi).symm.trans ((mem_outR c t' i).mp hi')
  have hc : c.val < 4 := c.isLt
  cases t <;> cases t' <;> rename_i k k' <;> simp only [outBlk] at hh
  · exact h (congrArg Sum.inl (Fin.ext (by omega)))
  · omega
  · omega
  · exact h (congrArg Sum.inr (Fin.ext (by omega)))

theorem outR_cover (c : Dev nD) : (Finset.univ : Finset (Fin 16 ⊕ Fin 16)).biUnion (fun t => (outR c t).set) = Finset.univ := by
  refine Finset.eq_univ_iff_forall.mpr fun i => ?_
  have h0 : (i 0).val < 512 := (i 0).isLt
  have hc : c.val < 4 := c.isLt
  by_cases h : (i 0).val / 256 = c.val / 2
  · exact Finset.mem_biUnion.mpr ⟨.inl ⟨(i 0).val / 16 % 16, Nat.mod_lt _ (by decide)⟩, Finset.mem_univ _,
      (mem_outR c _ i).mpr (by simp only [outBlk]; omega)⟩
  · exact Finset.mem_biUnion.mpr ⟨.inr ⟨(i 0).val / 16 % 16, Nat.mod_lt _ (by decide)⟩, Finset.mem_univ _,
      (mem_outR c _ i).mpr (by simp only [outBlk]; omega)⟩

/-- The slice of the result's buffer under a rectangle. -/
abbrev outS (r : Rect S512x512) (h : ∀ a, r.stride a = 1) : Memref sig .tc .vmem ⟨S512x512.rank, r.size⟩ .f32 := outM.slice r h

/-- The result's buffer owned whole is its two times sixteen row slices, -/
theorem out_split (c : Dev nD) (X : Vec F S512x512 .f32) :
    (owns (c : Thread nD τ) outM fullShare X : sProp 𝕄)
      ⊢ iprop((bigSepL slices fun k => owns (c : Thread nD τ) (outM.slice (ownR c k) (fun _ => rfl)) fullShare (fun j => X ((ownR c k).emb j)))
          ∗ bigSepL slices fun k => owns (c : Thread nD τ) (outM.slice (othR c k) (fun _ => rfl)) fullShare (fun j => X ((othR c k).emb j))) := by
  rw [← bigSep_univ_eq_bigSepL slices (by decide) (by decide), ← bigSep_univ_eq_bigSepL slices (by decide) (by decide)]
  exact (owns_rects (c : Thread nD τ) outM fullShare (outR c) (outR_stride c) (outR_disjoint c) (outR_cover c) X).trans
    (Entails.of_eq (bigSep_univ_sum _))

/-- and back. -/
theorem out_join (c : Dev nD) (X : Vec F S512x512 .f32) :
    iprop((bigSepL slices fun k => owns (c : Thread nD τ) (outM.slice (ownR c k) (fun _ => rfl)) fullShare (fun j => X ((ownR c k).emb j)))
          ∗ bigSepL slices fun k => owns (c : Thread nD τ) (outM.slice (othR c k) (fun _ => rfl)) fullShare (fun j => X ((othR c k).emb j)))
      ⊢ (owns (c : Thread nD τ) outM fullShare X : sProp 𝕄) := by
  rw [← bigSep_univ_eq_bigSepL slices (by decide) (by decide), ← bigSep_univ_eq_bigSepL slices (by decide) (by decide)]
  exact (Entails.of_eq (bigSep_univ_sum (Φ := fun t => owns (c : Thread nD τ) (outM.slice (outR c t) (outR_stride c t)) fullShare
      (fun j => X ((outR c t).emb j)))).symm).trans
    (owns_of_rects (c : Thread nD τ) outM fullShare (outR c) (outR_stride c) (outR_disjoint c) (outR_cover c) X)

/-! ## A load and a store of an owned slice -/

section Access

variable (c : Dev nD) {α : Type} {s : Shape} {M : Memref sig .tc .vmem s .f32} {r : Rect s}

/-- A load of a slice owned at `X` reads `X`. -/
theorem wp_load_slice (hr : ∀ a, r.stride a = 1) {hl : M.view.LoadsAt r.toLoadRect} {k : (r.shape.Idx → Elt F .f32) → PT F α}
    {q : PosShare TreeShare} {X : r.shape.Idx → Elt F .f32} {Q : α → sProp 𝕄} :
    (owns (c : Thread nD τ) (M.slice r hr) q X : sProp 𝕄)
      ⊢ iprop((owns (c : Thread nD τ) (M.slice r hr) q X -∗ WP c (k X) Q) -∗ WP c (.op (.load M r.toLoadRect hl) k) Q) := by
  unfold owns
  iintro ⟨%f, %hf, H⟩ Hk
  iapply (wp_load_rect 𝒱₀ (c : Thread nD τ) none Set.univ (m := M) (r := r) (Finset.Subset.refl _)) $$ H
  iintro H
  have hf' : (M.access r).read (Elt F) f = X := hf
  rw [hf']
  iapply Hk
  iexists f
  isplitr; · ipureintro; exact hf
  iexact H

/-- A store to a slice owned at anything leaves it owned at the stored value. -/
theorem wp_store_slice (hr : ∀ a, r.stride a = 1) {w : r.shape.Idx → Elt F .f32} {hx : (M.access r).Stores Finset.univ}
    {hm : (Finset.univ : Finset r.shape.Idx) = Finset.univ ∨ ∀ a, r.stride a = 1} {k : PUnit → PT F α} {X : r.shape.Idx → Elt F .f32} {Q : α → sProp 𝕄} :
    (owns (c : Thread nD τ) (M.slice r hr) fullShare X : sProp 𝕄)
      ⊢ iprop((owns (c : Thread nD τ) (M.slice r hr) fullShare w -∗ WP c (k ⟨⟩) Q)
          -∗ WP c (.op (.store M r w Finset.univ hx hm) k) Q) := by
  unfold owns
  iintro ⟨%f, %hf, H⟩ Hk
  iapply (wp_store 𝒱₀ (c : Thread nD τ) none Set.univ (m := M) (r := r) (Mk := Finset.univ)
      (S := (M.slice r hr).view.set) (f := f) (Finset.Subset.refl (M.access r).set)) $$ H
  iintro H
  iapply Hk
  iexists (M.access r).write (Elt F) f w Finset.univ
  isplitr; · ipureintro; exact View.read_write_univ f w
  iexact H

end Access

/-! ## The loop rule -/

/-- A loop over the slices of a list: an invariant `I` of the slices that remain, and per slice what its pass takes
    and what it leaves. -/
theorem wp_forEach (c : Dev nD) (f : Fin 16 → PT F PUnit) (I : List (Fin 16) → sProp 𝕄) (Pre Post : Fin 16 → sProp 𝕄)
    (hstep : ∀ (k : Fin 16) (l : List (Fin 16)) (α : Type) (kont : PUnit → PT F α) (Q : α → sProp 𝕄),
      iprop((I (k :: l) ∗ Pre k) ∗ ((I l ∗ Post k) -∗ WP c (kont ⟨⟩) Q)) ⊢ WP c (f k >>= kont) Q)
    {α : Type} (kont : PUnit → PT F α) (Q : α → sProp 𝕄) (l : List (Fin 16)) :
    iprop((I l ∗ bigSepL l Pre) ∗ ((I [] ∗ bigSepL l Post) -∗ WP c (kont ⟨⟩) Q)) ⊢ WP c (forEach f l >>= kont) Q := by
  induction l with
  | nil =>
    simp only [forEach, bigSepL_nil]
    iintro ⟨⟨HI, -⟩, Hk⟩
    iapply Hk
    isplitl [HI]; · iexact HI
    iempintro
  | cons k l ih =>
    rw [show (forEach f (k :: l) >>= kont) = (f k >>= fun _ => (forEach f l >>= kont)) from Prog.bind_assoc _ _ _]
    refine BIBase.Entails.trans ?_ (hstep k l α (fun _ => forEach f l >>= kont) Q)
    rw [bigSepL_cons', bigSepL_cons']
    iintro ⟨⟨HI, ⟨Hp, Hl⟩⟩, Hk⟩
    isplitl [HI Hp]
    · isplitl [HI] <;> iassumption
    iintro ⟨HI, Hpost⟩
    iapply ih
    isplitl [HI Hl]
    · isplitl [HI] <;> iassumption
    iintro ⟨HI, Hl⟩
    iapply Hk
    isplitl [HI]; · iexact HI
    isplitl [Hpost] <;> iassumption

end Cert.KernelIdealProof

end
-- ==== Proof.KernelIdeal.Schedule.lean ====
/-
  The protocol: the mesh neighbours, the semaphore cells, the contents that travel, the schedule of payments and the levels.
-/
module

public import proofs.«01_k».proof.Proof.KernelIdeal.Slices
public import Idealize.ShloMosaic.Lib.Pipeline.ValueKit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The neighbours on the 2×2 mesh -/

set_option backward.proofsInPublic true in
/-- The device at the other `y`, -/
def yN (c : Dev nD) : Dev nD := ⟨(2 * (c.val / 2) + 1) - (c.val % 2), by have h : c.val < 4 := c.isLt; show _ < 4; omega⟩
set_option backward.proofsInPublic true in
/-- and the one at the other `x`. -/
def xN (c : Dev nD) : Dev nD := ⟨((c.val % 2) + 2) - 2 * (c.val / 2), by have h : c.val < 4 := c.isLt; show _ < 4; omega⟩

theorem yN_yN (c : Dev nD) : yN (yN c) = c := by revert c; decide
theorem xN_xN (c : Dev nD) : xN (xN c) = c := by revert c; decide

theorem dev1_eq (c : Dev nD) : (⟨k0_dev1 c, k0_dev1_lt c⟩ : Dev nD) = yN c := Fin.ext (k0_dev1_eq c)
theorem dev2_eq (c : Dev nD) : (⟨k0_dev2 c, k0_dev2_lt c⟩ : Dev nD) = xN c := Fin.ext (k0_dev2_eq c)
theorem dev3_eq (c : Dev nD) : (⟨k0_dev3 c, k0_dev3_lt c⟩ : Dev nD) = yN c := Fin.ext (k0_dev3_eq c)
theorem dev19_eq (c : Dev nD) : (⟨k0_dev19 c, k0_dev19_lt c⟩ : Dev nD) = xN c := Fin.ext (k0_dev19_eq c)

def yE : Dev nD ≃ Dev nD := ⟨yN, yN, yN_yN, yN_yN⟩
def xE : Dev nD ≃ Dev nD := ⟨xN, xN, xN_xN, xN_xN⟩

/-! ## The cells -/

/-- The four semaphore arrays: sends and receives of the first exchange, sends and receives of the second. -/
abbrev darr : Fin 4 → DmaSems sig S16 := fun | 0 => cc0_scratch4 | 1 => cc0_scratch5 | 2 => cc0_scratch6 | 3 => cc0_scratch7
abbrev dsem (j : Fin 4) (k : Fin 16) : DmaSem sig := semAt (darr j) k

/-- Which array and slice a DMA semaphore belongs to (`none`: a staging semaphore). -/
def dec (s : DmaSem sig) : Option (Fin 4 × Fin 16) :=
  if 3 ≤ s.val then some (⟨(s.val - 3) / 16 % 4, Nat.mod_lt _ (by decide)⟩, ⟨(s.val - 3) % 16, Nat.mod_lt _ (by decide)⟩) else none

set_option maxRecDepth 8000 in
theorem dec_dsem : ∀ (j : Fin 4) (k : Fin 16), dec (dsem j k) = some (j, k) := by decide +kernel

theorem dsem_inj {j j' : Fin 4} {k k' : Fin 16} (h : dsem j k = dsem j' k') : j = j' ∧ k = k' := by
  have h1 := (dec_dsem j k).symm.trans ((congrArg dec h).trans (dec_dsem j' k'))
  exact ⟨congrArg Prod.fst (Option.some.inj h1), congrArg Prod.snd (Option.some.inj h1)⟩

abbrev barCell (c : Dev nD) : GSem nD τ sig := ((c : Thread nD τ), .reg barS)
abbrev dcell (c : Dev nD) (j : Fin 4) (k : Fin 16) : GSem nD τ sig := ((c : Thread nD τ), .dma (dsem j k))

theorem bar_ne_dcell (c c' : Dev nD) (j : Fin 4) (k : Fin 16) : barCell c ≠ dcell c' j k := fun h => by cases congrArg Prod.snd h
theorem barCell_inj {a b : Dev nD} (h : barCell a = barCell b) : a = b :=
  Fin.ext (congrArg (fun g : GSem nD τ sig => g.1.1.val) h)
theorem dcell_inj {a b : Dev nD} {j j' : Fin 4} {k k' : Fin 16} (h : dcell a j k = dcell b j' k') : a = b ∧ j = j' ∧ k = k' := by
  have h1 : a = b := Fin.ext (congrArg (fun g : GSem nD τ sig => g.1.1.val) h)
  have h2 : SemLoc.dma (dsem j k) = SemLoc.dma (dsem j' k') := congrArg Prod.snd h
  exact ⟨h1, dsem_inj (SemLoc.dma.inj h2)⟩

/-- The semaphore amount of one slice's copy. -/
abbrev N : ℕ := (rows r1M 0 : Memref sig .tc .vmem S16x512 .f32).view.dmaCredit
theorem N_pos : 0 < N := View.dmaCredit_pos _ (by decide)

/-! ## Contents -/

/-- Device `c`'s staged blocks of the two arguments. -/
def dyAt (c : Dev nD) : (cc0_stg0_0 : Ref sig .tc).ty.Contents (Elt F) :=
  (win0_0.blk (0 : Fin 1)).view.read (Elt F) ((s₀ m ρ).mem ((c : Thread nD τ).loc main_arg0))
def wAt (c : Dev nD) : (cc0_stg1_0 : Ref sig .tc).ty.Contents (Elt F) :=
  (win0_1.blk (0 : Fin 1)).view.read (Elt F) ((s₀ m ρ).mem ((c : Thread nD τ).loc main_arg1))

/-- The rows of `dy` that device `c` reads. -/
abbrev dyR (c : Dev nD) : Rect S512x2048 := Rect.unit (s := S512x2048) (k0_off1 c) S256x2048.size (k0_off1_inb c)
abbrev wR : Rect S512x2048 := Rect.unit (s := S512x2048) ![0, 0] S512x2048.size inb_S512x2048_S512x2048_0_0
abbrev pR : Rect S256x512 := Rect.unit (s := S256x512) ![0, 0] S256x512.size inb_S256x512_S256x512_0_0

/-- Device `c`'s partial product, -/
def pval (c : Dev nD) : Vec F S256x512 .f32 := k0_pay1 (fun j => dyAt m ρ c ((dyR c).emb j)) (wAt m ρ c)
/-- its sum with the partial product at the other `y`, -/
def qval (c : Dev nD) : Vec F S256x512 .f32 := addf (pval m ρ c) (pval m ρ (yN c))

set_option backward.proofsInPublic true in
/-- The device at `x = b` in `c`'s column. -/
def atX (c : Dev nD) (b : ℕ) : Dev nD := ⟨2 * (b % 2) + c.val % 2, by show _ < 4; omega⟩
set_option backward.proofsInPublic true in
/-- An index of the result, within the 256 rows of one `x`. -/
def inX (i : S512x512.Idx) : S256x512.Idx :=
  fun | 0 => ⟨(i 0).val % 256, Nat.mod_lt _ (by decide)⟩ | 1 => ⟨(i 1).val, (i 1).isLt⟩
/-- and the result: at a row of `x = b`, that device's sum. -/
def outval (c : Dev nD) : Vec F S512x512 .f32 := fun i => qval m ρ (atX c ((i 0).val / 256)) (inX i)

theorem outval_own (c : Dev nD) (k : Fin 16) : (fun j => outval m ρ c ((ownR c k).emb j)) = sl (qval m ρ c) k := by
  funext j
  have hc : c.val < 4 := c.isLt
  have hk := k.isLt
  have hj : (j 0).val < 16 := (j 0).isLt
  have e0 : ((ownR c k).emb j 0).val = 256 * (c.val / 2) + 16 * k.val + (j 0).val := by
    rw [ValueKit.rect_emb_unit_val, congrFun (k0_off2_eq c k) 0]; rfl
  have e1 : ((ownR c k).emb j 1).val = (j 1).val := by
    rw [ValueKit.rect_emb_unit_val, congrFun (k0_off2_eq c k) 1]; exact Nat.zero_add _
  unfold outval sl
  congr 1
  · congr 1
    refine Fin.ext ?_
    show 2 * (((ownR c k).emb j 0).val / 256 % 2) + c.val % 2 = c.val
    rw [e0]; omega
  · funext a; refine Fin.ext ?_
    match a with
    | 0 =>
      show ((ownR c k).emb j 0).val % 256 = ((rowR k).emb j 0).val
      rw [e0, ValueKit.rect_emb_unit_val]; show _ = 16 * k.val + (j 0).val; omega
    | 1 =>
      show ((ownR c k).emb j 1).val = ((rowR k).emb j 1).val
      rw [e1, ValueKit.rect_emb_unit_val]; exact (Nat.zero_add _).symm

theorem outval_oth (c : Dev nD) (k : Fin 16) : (fun j => outval m ρ c ((othR c k).emb j)) = sl (qval m ρ (xN c)) k := by
  funext j
  have hc : c.val < 4 := c.isLt
  have hk := k.isLt
  have hj : (j 0).val < 16 := (j 0).isLt
  have e0 : ((othR c k).emb j 0).val = 16 * k.val + 256 - 256 * (c.val / 2) + (j 0).val := by
    rw [ValueKit.rect_emb_unit_val, congrFun (k0_off3_eq c k) 0]; rfl
  have e1 : ((othR c k).emb j 1).val = (j 1).val := by
    rw [ValueKit.rect_emb_unit_val, congrFun (k0_off3_eq c k) 1]; exact Nat.zero_add _
  unfold outval sl
  congr 1
  · congr 1
    refine Fin.ext ?_
    show 2 * (((othR c k).emb j 0).val / 256 % 2) + c.val % 2 = ((c.val % 2) + 2) - 2 * (c.val / 2)
    rw [e0]; omega
  · funext a; refine Fin.ext ?_
    match a with
    | 0 =>
      show ((othR c k).emb j 0).val % 256 = ((rowR k).emb j 0).val
      rw [e0, ValueKit.rect_emb_unit_val]; show _ = 16 * k.val + (j 0).val; omega
    | 1 =>
      show ((othR c k).emb j 1).val = ((rowR k).emb j 1).val
      rw [e1, ValueKit.rect_emb_unit_val]; exact (Nat.zero_add _).symm

/-- The sum of two slices is the slice of the sum. -/
theorem pay2_sl (c : Dev nD) (k : Fin 16) : k0_pay2 (sl (pval m ρ c) k) (sl (pval m ρ (yN c)) k) = sl (qval m ρ c) k := by
  unfold k0_pay2; dsimp only
  rw [shapeCast_self]; rfl

/-! ## The schedule -/

/-- A buffer of device `c` at unknown contents. -/
def anyOf (c : Dev nD) (M : Memref sig .tc .vmem S256x512 .f32) : sProp 𝕄 :=
  iprop(∃ X : Vec F S256x512 .f32, owns (c : Thread nD τ) M fullShare X)

/-- What a signal hands the device it reaches: from the other `y` (duty `false`) that device's first landing buffer,
    from the other `x` (duty `true`) that device's second. -/
def barPay (c : Dev nD) (d : Bool) : sProp 𝕄 := if d then anyOf (F := F) (xN c) r2M else anyOf (F := F) (yN c) r1M

/-- What the end of slice `k`'s copy hands: at its source the half lent, at its destination the slice landed. -/
def dmaPay (j : Fin 4) (k : Fin 16) (c : Dev nD) : sProp 𝕄 :=
  match j with
  | 0 => owns (c : Thread nD τ) (rows pM k) fullShare.right (sl (pval m ρ c) k)
  | 1 => owns (c : Thread nD τ) (rows r1M k) fullShare (sl (pval m ρ (yN c)) k)
  | 2 => owns (c : Thread nD τ) (rows qM k) fullShare.right (sl (qval m ρ c) k)
  | 3 => owns (c : Thread nD τ) (rows r2M k) fullShare (sl (qval m ρ (xN c)) k)

def payOf (c : Dev nD) (d : Bool) : SemLoc sig → sProp 𝕄
  | .reg _ => barPay (F := F) c d
  | .dma s => match dec s with | some jk => dmaPay m ρ jk.1 jk.2 c | none => iprop(emp)
def dutiesOf : SemLoc sig → Finset Bool
  | .reg _ => Finset.univ
  | .dma s => if (dec s).isSome then {false} else ∅
def amountOf : SemLoc sig → ℕ
  | .reg _ => 1
  | .dma _ => N

/-- One round: a barrier cell has two duties of one unit, a copy's cell one of the slice's amount. -/
def rd : Rounds.Schedule (GSem nD τ sig) Bool 𝕄 where
  duties g r := if r = 0 ∧ g.1.2 = .tc then dutiesOf g.2 else ∅
  unitless _ := False
  amount g _ _ := amountOf g.2
  payload g _ d := payOf m ρ g.1.1 d g.2
  amount_pos g _ _ _ := by
    show 0 < amountOf g.2
    cases g.2
    · exact Nat.one_pos
    · exact N_pos

instance payOf_storable (c : Dev nD) (d : Bool) (s : SemLoc sig) : BI.Storable (upEmb : UEmb _ 𝕄) (payOf (F := F) m ρ c d s) := by
  unfold payOf
  cases s with
  | reg s => unfold barPay anyOf; dsimp only; split <;> infer_instance
  | dma s =>
    dsimp only
    split
    · rename_i jk _; unfold dmaPay; obtain ⟨j, k⟩ := jk; dsimp only; split <;> infer_instance
    · infer_instance
instance rd_payload_storable (g : GSem nD τ sig) (r : ℕ) (d : Bool) :
    BI.Storable (upEmb : UEmb _ 𝕄) ((rd (F := F) m ρ).payload g r d) := payOf_storable m ρ g.1.1 d g.2

theorem duties_bar (c : Dev nD) : (rd (F := F) m ρ).duties (barCell c) 0 = Finset.univ := by
  dsimp only [rd]; exact if_pos ⟨rfl, rfl⟩
theorem duties_dma (c : Dev nD) (j : Fin 4) (k : Fin 16) : (rd (F := F) m ρ).duties (dcell c j k) 0 = {false} := by
  dsimp only [rd]; rw [if_pos ⟨rfl, rfl⟩]; dsimp only [dutiesOf]; rw [dec_dsem]; rfl
theorem duties_later (g : GSem nD τ sig) (r : ℕ) (hr : 0 + 1 ≤ r) : (rd (F := F) m ρ).duties g r = ∅ := by
  dsimp only [rd]; exact if_neg fun h => by have := h.1; omega
theorem amount_bar (c : Dev nD) (d : Bool) : (rd (F := F) m ρ).amount (barCell c) 0 d = 1 := rfl
theorem amount_dma (c : Dev nD) (j : Fin 4) (k : Fin 16) (d : Bool) : (rd (F := F) m ρ).amount (dcell c j k) 0 d = N := rfl
theorem payload_bar (c : Dev nD) (d : Bool) : (rd (F := F) m ρ).payload (barCell c) 0 d = barPay c d := rfl
theorem payload_dma (c : Dev nD) (j : Fin 4) (k : Fin 16) (d : Bool) : (rd (F := F) m ρ).payload (dcell c j k) 0 d = dmaPay m ρ j k c := by
  show (match dec (dsem j k) with | some jk => dmaPay m ρ jk.1 jk.2 c | none => iprop(emp)) = _
  rw [dec_dsem]
theorem expect_bar (c : Dev nD) : (rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_dma (c : Dev nD) (j : Fin 4) (k : Fin 16) : (rd (F := F) m ρ).expect (dcell c j k) 0 = N := by
  unfold Schedule.expect Schedule.amountOf; rw [duties_dma, Finset.sum_singleton, amount_dma]
/-- What a wait for a barrier cell's two units hands: both neighbours' landing buffers; -/
theorem rest_bar (c : Dev nD) : bigSep ((rd (F := F) m ρ).duties (barCell c) 0 \ ∅) (fun d => (rd (F := F) m ρ).payload (barCell c) 0 d)
    = iprop(anyOf (yN c) r1M ∗ anyOf (xN c) r2M) := by
  rw [Finset.sdiff_empty, duties_bar, bigSep_univ_eq_bigSepL [false, true] (by decide) (by decide), bigSepL_cons_cons, bigSepL_singleton,
    payload_bar, payload_bar]
  rfl
/-- and one for a copy's cell, its payload. -/
theorem rest_dma (c : Dev nD) (j : Fin 4) (k : Fin 16) :
    bigSep ((rd (F := F) m ρ).duties (dcell c j k) 0 \ ∅) (fun d => (rd (F := F) m ρ).payload (dcell c j k) 0 d) = dmaPay m ρ j k c := by
  rw [Finset.sdiff_empty, duties_dma, bigSep_singleton, payload_dma]

/-! ## What a device owes; the levels -/

/-- The arrivals of the slices of a list in array `j` of device `c`. -/
def owing (c : Dev nD) (j : Fin 4) (l : List (Fin 16)) : CellTallies nD τ sig Unit := (l.map fun k => tallyAt (dcell c j k) () N).sum

theorem owing_cons (c : Dev nD) (j : Fin 4) (k : Fin 16) (l : List (Fin 16)) :
    owing c j (k :: l) = owing c j l + tallyAt (dcell c j k) () N := by
  unfold owing; rw [List.map_cons, List.sum_cons, add_comm]

/-- What is owed after the first signal, after both, and at launch: the second exchange's arrivals at the other `x`, the
    first's at the other `y`, and a unit to each neighbour's barrier. -/
def O₂ (c : Dev nD) : CellTallies nD τ sig Unit := owing (xN c) 3 slices + owing (yN c) 1 slices
def O₁ (c : Dev nD) : CellTallies nD τ sig Unit := O₂ c + tallyAt (barCell (xN c)) () 1
def O₀ (c : Dev nD) : CellTallies nD τ sig Unit := O₁ c + tallyAt (barCell (yN c)) () 1

def L (g : GSem nD τ sig) : Finset Unit := if g.1.2 = .tc then {()} else ∅
/-- barrier cells at 1, the first exchange's arrivals at 2, the second's at 3, everything else at 0. -/
def lvOf : SemLoc sig → ℕ
  | .reg _ => 1
  | .dma s => match dec s with | some jk => if jk.1 = 1 then 2 else if jk.1 = 3 then 3 else 0 | none => 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_dcell (c : Dev nD) (j : Fin 4) (k : Fin 16) (u : Unit) : lv (dcell c j k) u = if j = 1 then 2 else if j = 3 then 3 else 0 := by
  show (match dec (dsem j k) with | some jk => if jk.1 = 1 then 2 else if jk.1 = 3 then 3 else 0 | none => 0) = _
  rw [dec_dsem]

theorem owing_pos {c : Dev nD} {j : Fin 4} {g : GSem nD τ sig} {u : Unit} : ∀ {l : List (Fin 16)}, 0 < owing c j l g u → ∃ k ∈ l, g = dcell c j k
  | [], h => absurd h (Nat.lt_irrefl 0)
  | k :: l, h => by
    rw [owing_cons, Pi.add_apply, Finsupp.add_apply, tallyAt_apply] at h
    by_cases hg : g = dcell c j k ∧ u = ()
    · exact ⟨k, List.mem_cons_self, hg.1⟩
    · rw [if_neg hg, Nat.add_zero] at h
      obtain ⟨k', hk', e⟩ := owing_pos h
      exact ⟨k', List.mem_cons_of_mem _ hk', e⟩

/-- The cells a device may owe. -/
theorem O₀_pos {c : Dev nD} {g : GSem nD τ sig} {u : Unit} (h : 0 < O₀ c g u) :
    (∃ k, g = dcell (xN c) 3 k) ∨ (∃ k, g = dcell (yN c) 1 k) ∨ g = barCell (xN c) ∨ g = barCell (yN c) := by
  unfold O₀ O₁ O₂ at h
  simp only [Pi.add_apply, Finsupp.add_apply, tallyAt_apply] at h
  by_cases h1 : 0 < owing (xN c) 3 slices g u
  · obtain ⟨k, _, e⟩ := owing_pos h1; exact .inl ⟨k, e⟩
  by_cases h2 : 0 < owing (yN c) 1 slices g u
  · obtain ⟨k, _, e⟩ := owing_pos h2; exact .inr (.inl ⟨k, e⟩)
  by_cases h3 : g = barCell (xN c)
  · exact .inr (.inr (.inl h3))
  by_cases h4 : g = barCell (yN c)
  · exact .inr (.inr (.inr h4))
  rw [if_neg (fun h => h3 h.1), if_neg (fun h => h4 h.1)] at h
  omega

/-- A staging cell may be awaited whatever is owed at launch, -/
theorem mayWait_stage (c : Dev nD) (q : DmaSem sig) (hq : dec q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ | rfl | rfl <;> exact Finset.mem_singleton_self _)
      (fun p hp => by rw [Finset.mem_singleton.mp hp]; show lvOf (.dma q) ≤ 0; dsimp only [lvOf]; rw [hq])
      (fun g u hg => by
        rcases O₀_pos hg with ⟨k, rfl⟩ | ⟨k, rfl⟩ | rfl | rfl
        · rw [lv_dcell]; decide
        · rw [lv_dcell]; decide
        · exact Nat.one_pos
        · exact Nat.one_pos)
  · rw [MayWait_zero]; iintro -; iempintro

/-- its barrier cell once its signals are sent, -/
theorem mayWait_bar (c : Dev nD) : (levAts L lv : sProp 𝕄) ⊢ MayWait (c : Thread nD τ) (.reg barS) () (O₂ c) := by
  have key (g : GSem nD τ sig) (u : Unit) (hg : 0 < O₂ c g u) : (∃ k, g = dcell (xN c) 3 k) ∨ (∃ k, g = dcell (yN c) 1 k) := by
    unfold O₂ at hg
    rw [Pi.add_apply, Finsupp.add_apply] at hg
    by_cases h1 : 0 < owing (xN c) 3 slices g u
    · obtain ⟨k, _, e⟩ := owing_pos h1; exact .inl ⟨k, e⟩
    · obtain ⟨k, _, e⟩ := owing_pos (show 0 < owing (yN c) 1 slices g u by omega); exact .inr ⟨k, e⟩
  refine MayOwe.of_cut (L := L) (lev := lv) 1 (fun p hp => by rw [Finset.mem_singleton.mp hp, L_tc]; exact Finset.mem_singleton_self _)
    (fun g u hg => by rcases key g u hg with ⟨k, rfl⟩ | ⟨k, rfl⟩ <;> exact Finset.mem_singleton_self _)
    (fun p hp => by rw [Finset.mem_singleton.mp hp]; exact Nat.le_refl 1)
    (fun g u hg => by
      rcases key g u hg with ⟨k, rfl⟩ | ⟨k, rfl⟩
      · rw [lv_dcell]; decide
      · rw [lv_dcell]; decide)

/-- and an arrival of the first exchange while only arrivals of the second are owed. -/
theorem mayWait_v1 (c : Dev nD) (k : Fin 16) (l : List (Fin 16)) :
    (levAts L lv : sProp 𝕄) ⊢ MayWait (c : Thread nD τ) (.dma (dsem 1 k)) () (owing (xN c) 3 l) := by
  refine MayOwe.of_cut (L := L) (lev := lv) 2 (fun p hp => by rw [Finset.mem_singleton.mp hp, L_tc]; exact Finset.mem_singleton_self _)
    (fun g u hg => by obtain ⟨k, _, rfl⟩ := owing_pos hg; exact Finset.mem_singleton_self _)
    (fun p hp => by rw [Finset.mem_singleton.mp hp]; show lv (dcell c 1 k) () ≤ 2; rw [lv_dcell]; decide)
    (fun g u hg => by obtain ⟨k, _, rfl⟩ := owing_pos hg; rw [lv_dcell]; decide)

/-! ## The records shared by all devices -/

/-- The cells of one device: its barrier's, and a copy's per array and slice. -/
abbrev CI : Type := Unit ⊕ (Fin 4 × Fin 16)
abbrev csem : CI → SemLoc sig | .inl _ => .reg barS | .inr jk => .dma (dsem jk.1 jk.2)
abbrev kcell (ck : Dev nD × CI) : GSem nD τ sig := ((ck.1 : Thread nD τ), csem ck.2)

/-- Every cell's invariant, at the names `K`, and that every cell is at round 0. -/
def records (K : Dev nD × CI → ℕ) : sProp 𝕄 :=
  iprop((bigSep Finset.univ fun ck : Dev nD × CI => cellInv ER (rd m ρ) (K ck) (kcell ck))
    ∗ bigSep Finset.univ fun ck : Dev nD × CI => reached ER (kcell ck) 0)

instance records_persistent (K : Dev nD × CI → ℕ) : BI.Persistent (records m ρ K) := by unfold records; infer_instance

theorem inv_bar (K : Dev nD × CI → ℕ) (c : Dev nD) : records m ρ K ⊢ cellInv ER (rd m ρ) (K (c, .inl ())) (barCell c) :=
  Laws.sep_elim_left.trans (bigSep_elim (Finset.mem_univ (c, (.inl () : CI))))
theorem inv_dma (K : Dev nD × CI → ℕ) (c : Dev nD) (j : Fin 4) (k : Fin 16) :
    records m ρ K ⊢ cellInv ER (rd m ρ) (K (c, .inr (j, k))) (dcell c j k) :=
  Laws.sep_elim_left.trans (bigSep_elim (Finset.mem_univ (c, (.inr (j, k) : CI))))
theorem at_bar (K : Dev nD × CI → ℕ) (c : Dev nD) : records m ρ K ⊢ reached ER (barCell c) 0 :=
  Laws.sep_elim_right.trans (bigSep_elim (Finset.mem_univ (c, (.inl () : CI))))
theorem at_dma (K : Dev nD × CI → ℕ) (c : Dev nD) (j : Fin 4) (k : Fin 16) : records m ρ K ⊢ reached ER (dcell c j k) 0 :=
  Laws.sep_elim_right.trans (bigSep_elim (Finset.mem_univ (c, (.inr (j, k) : CI))))

end Cert.KernelIdealProof

end
-- ==== Proof.KernelIdeal.Passes.lean ====
/-
  One pass of each of the kernel's four loops over the row slices.
-/
module

public import proofs.«01_k».proof.Proof.KernelIdeal.Schedule

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-- What every pass carries: the shared records, the levels, and what the device still owes. -/
def ctx (c : Dev nD) (O : CellTallies nD τ sig Unit) : sProp 𝕄 :=
  iprop((records m ρ K ∗ levAts L lv) ∗ ∃ W, owes (c : Thread nD τ) O W)

/-- A slice of device `c` at unknown contents. -/
def anyS (c : Dev nD) (M : Memref sig .tc .vmem S16x512 .f32) : sProp 𝕄 :=
  iprop(∃ X : Vec F S16x512 .f32, owns (c : Thread nD τ) M fullShare X)

abbrev tok (c : Dev nD) (j : Fin 4) (k : Fin 16) : sProp 𝕄 := dutyTok ER (dcell c j k) 0 false
abbrev pos (c : Dev nD) (j : Fin 4) (k : Fin 16) : sProp 𝕄 := atPos ER (dcell c j k) 0 ∅ 0
abbrev crd (c : Dev nD) (j : Fin 4) (k : Fin 16) : sProp 𝕄 := cred (tallyAt (dcell c j k) () N)
abbrev done (c : Dev nD) (j : Fin 4) (k : Fin 16) : sProp 𝕄 := semVal (dcell c j k) 0

/-- Every row slice of a 256×512 buffer has the one amount. -/
theorem credit_rows (M : Memref sig .tc .vmem S256x512 .f32) (k : Fin 16) : (rows M k).view.dmaCredit = N := rfl

/-- A memref's elements at contents it reads as `X` are owned at `X`. -/
theorem owns_of_read (c : Dev nD) (M : Memref sig .tc .vmem S16x512 .f32) (q : PosShare TreeShare) (f : Buf (Elt F) (M.view.loc (c : Thread nD τ)))
    (X : Vec F S16x512 .f32) (h : M.view.read (Elt F) f = X) :
    (M.view.loc (c : Thread nD τ) ↦[M.view.set]{q} f : sProp 𝕄) ⊢ owns (c : Thread nD τ) M q X := by
  subst h; exact owns_intro (c : Thread nD τ) M q f

/-- A wait for one end of slice `k`'s copy: the payload comes, and the cell is closed with its counter at zero. -/
theorem wp_wait_slice (c : Dev nD) (j : Fin 4) (k : Fin 16) (O : CellTallies nD τ sig Unit)
    (hO : (levAts L lv : sProp 𝕄) ⊢ MayWait (c : Thread nD τ) (.dma (dsem j k)) () O)
    (src dst : Memref sig .tc .vmem S16x512 .f32) {h : src.view.WordExact} {h' : dst.view.WordExact} (hN : dst.view.dmaCredit = N)
    {α : Type} {kont : PUnit → PT F α} {Q : α → sProp 𝕄} :
    iprop(ctx m ρ K c O ∗ crd c j k ∗ pos c j k)
      ⊢ iprop(((ctx m ρ K c O ∗ done c j k ∗ dmaPay m ρ j k c) -∗ WP c (kont ⟨⟩) Q)
          -∗ WP c (.op (.waitDma2 (dsem j k) src dst h h') kont) Q) := by
  unfold ctx
  iintro ⟨⟨⟨#HR, #Hlev⟩, ⟨%W, HO⟩⟩, Hc, Hat⟩ Hk
  iapply (Rounds.wp_wait_rest_token 𝒱₀ ER (rd m ρ) (c : Thread nD τ) none (κ := K (c, .inr (j, k)))
      (wpE_waitDma2_eq 𝒱₀ (c : Thread nD τ) none Set.univ) (Set.mem_univ _) () (O := O) (W := W) (R := 0) (m := 0) (T := ∅)
      (by rw [Nat.zero_add, expect_dma, hN])) $$ [Hc HO Hat]
  · isplitr; · iapply (inv_dma m ρ K c j k); iexact HR
    isplitl [Hc]; · rw [hN]; iexact Hc
    isplitl [HO]; · iexact HO
    isplitr; · iapply hO; iexact Hlev
    iexact Hat
  iintro ⟨HO, Hat, -, Hpay⟩
  ihave Hp := (Entails.of_eq (rest_dma m ρ c j k)) $$ Hpay
  imod (Rounds.cell_close ER (rd m ρ) (Set.mem_univ (K (c, .inr (j, k)))) (fun h => h) (R := 0 + 1) (duties_later m ρ (dcell c j k))) $$ [Hat] with Hz
  · isplitr; · iapply (inv_dma m ρ K c j k); iexact HR
    iexact Hat
  iapply Hk
  isplitl [HO]
  · isplitr
    · isplitr; · iexact HR
      iexact Hlev
    iexists _; iexact HO
  isplitl [Hz]; · iexact Hz
  iexact Hp

/-- The send of slice `k` of `src`, owned at a half share, to `dst` of device `n`: the half goes with the source's
    payload, the slice of `dst` arrives at what `src` holds. -/
theorem wp_send_slice (c n n' : Dev nD) (hn : n' = n) (js jd : Fin 4) (k : Fin 16) (src dst : Memref sig .tc .vmem S256x512 .f32)
    (X : Vec F S256x512 .f32) (hp₁ : dmaPay m ρ js k c = owns (c : Thread nD τ) (rows src k) fullShare.right (sl X k))
    (hp₂ : dmaPay m ρ jd k n = owns (n : Thread nD τ) (rows dst k) fullShare (sl X k))
    (hN : (rows dst k).view.dmaCredit = N) (O : CellTallies nD τ sig Unit)
    {hsc : (rows dst k : Memref sig (Dev.tc n' : Thread nD τ).2.kind .vmem S16x512 .f32).view.ref.isScScratch = false}
    {hsrc : (rows src k).view.WordExact} {hdst : (rows dst k).view.WordExact}
    {hsem : DmaTarget.Typed .vmem (.dma (dsem jd k)) (.remote (Dev.tc n' : Thread nD τ) (rows dst k) (.dma (dsem js k)) hsc)}
    {α : Type} {kont : PUnit → PT F α} {Q : α → sProp 𝕄} :
    iprop(ctx m ρ K c (O + tallyAt (dcell n jd k) () N) ∗ owns (c : Thread nD τ) (rows src k) fullShare.right (sl X k)
        ∗ anyS n (rows dst k) ∗ tok c js k ∗ tok n jd k)
      ⊢ iprop(((ctx m ρ K c O ∗ crd c js k) -∗ WP c (kont ⟨⟩) Q)
          -∗ WP c (.op (.enqueueDma (rows src k) (.remote (Dev.tc n' : Thread nD τ) (rows dst k) (.dma (dsem js k)) hsc)
              (.dma (dsem jd k)) hsrc hdst hsem) kont) Q) := by
  subst hn
  unfold ctx anyS
  iintro ⟨⟨⟨#HR, #Hlev⟩, ⟨%W, HO⟩⟩, Hs, ⟨%Y, Hd⟩, Ht, Ht'⟩ Hk
  ihave Hs' := (Entails.of_eq (show (owns (c : Thread nD τ) (rows src k) fullShare.right (sl X k) : sProp 𝕄)
    = iprop(∃ f, ⌜(rows src k).view.read (Elt F) f = sl X k⌝ ∗ ((rows src k).view.loc (c : Thread nD τ) ↦[(rows src k).view.set]{fullShare.right} f)) from rfl)) $$ Hs
  ihave Hd' := (Entails.of_eq (show (owns (n' : Thread nD τ) (rows dst k) fullShare Y : sProp 𝕄)
    = iprop(∃ f, ⌜(rows dst k).view.read (Elt F) f = Y⌝ ∗ ((rows dst k).view.loc (n' : Thread nD τ) ↦[(rows dst k).view.set]{fullShare} f)) from rfl)) $$ Hd
  icases Hs' with ⟨%fs, %hfs, Hs⟩
  icases Hd' with ⟨%fd, %hfd, Hd⟩
  have hA := owns_of_read c (rows src k) fullShare.right fs (sl X k) hfs
  have hB := owns_of_read n' (rows dst k) fullShare ((rows dst k).view.write (Elt F) fd ((rows src k).view.read (Elt F) fs) Finset.univ) (sl X k)
    ((View.read_write_univ _ _).trans hfs)
  iapply (Rounds.wp_send_pointsTo 𝒱₀ ER (rd m ρ) (c : Thread nD τ) none (c' := (n' : Thread nD τ)) (src := rows src k) (dst := rows dst k)
    (κ₁ := K (c, .inr (js, k))) (κ₂ := K (n', .inr (jd, k)))
    (r₁ := 0) (r₂ := 0) (d₁ := false) (d₂ := false) (q := fullShare.right) (fs := fs) (fd := fd)
    (by rw [duties_dma]; exact Finset.mem_singleton_self _) (by rw [duties_dma]; exact Finset.mem_singleton_self _)
    () () N (show (rows dst k).view.amount (.dma (dsem jd k)) = N from hN) (amount_dma m ρ c js k false) (amount_dma m ρ n' jd k false) O rfl (W := W)
    (hA.trans (Entails.of_eq (hp₁.symm.trans (payload_dma m ρ c js k false).symm)))
    (hB.trans (Entails.of_eq (hp₂.symm.trans (payload_dma m ρ n' jd k false).symm)))) $$ [HO Hs Hd Ht Ht']
  · isplitr; · iapply (inv_dma m ρ K c js k); iexact HR
    isplitr; · iapply (inv_dma m ρ K n' jd k); iexact HR
    isplitl [Hs]; · iexact Hs
    isplitl [Hd]; · iexact Hd
    isplitl [HO]; · iexact HO
    isplitl [Ht]; · iexact Ht
    isplitr; · iapply (at_dma m ρ K c js k); iexact HR
    isplitl [Ht']; · iexact Ht'
    iapply (at_dma m ρ K n' jd k); iexact HR
  iintro ⟨Hc, HO⟩
  iapply Hk
  isplitl [HO]
  · isplitr
    · isplitr; · iexact HR
      iexact Hlev
    iexists W; iexact HO
  iexact Hc

/-! ## One pass of each loop -/

def preSend (c : Dev nD) (k : Fin 16) : sProp 𝕄 :=
  iprop(owns (c : Thread nD τ) (rows pM k) fullShare (sl (pval m ρ c) k) ∗ anyS (F := F) (yN c) (rows r1M k) ∗ tok c 0 k ∗ tok (yN c) 1 k)
def postSend (c : Dev nD) (k : Fin 16) : sProp 𝕄 :=
  iprop(owns (c : Thread nD τ) (rows pM k) fullShare.left (sl (pval m ρ c) k) ∗ crd c 0 k)

/-- The first exchange's send of slice `k`. -/
theorem pass_send (c : Dev nD) (k : Fin 16) (l : List (Fin 16)) (α : Type) (kont : PUnit → PT F α) (Q : α → sProp 𝕄) :
    iprop((ctx m ρ K c (owing (xN c) 3 slices + owing (yN c) 1 (k :: l)) ∗ preSend m ρ c k)
        ∗ ((ctx m ρ K c (owing (xN c) 3 slices + owing (yN c) 1 l) ∗ postSend m ρ c k) -∗ WP c (kont ⟨⟩) Q))
      ⊢ WP c (send1 c k >>= kont) Q := by
  unfold send1 preSend postSend
  rw [owing_cons, ← add_assoc]
  simp only [Prog.lift, Prog.bind_op, Prog.bind_ret, Prog.pure_eq_ret]
  iintro ⟨⟨Hx, Hp, Hr, Ht, Ht'⟩, Hk⟩
  ihave Hp2 := (owns_halves _ _ _ _).1 $$ Hp
  icases Hp2 with ⟨Hl, Hr2⟩
  iapply (wp_send_slice m ρ K c (yN c) _ (dev3_eq c) 0 1 k pM r1M (pval m ρ c) rfl
    (by unfold dmaPay; dsimp only; rw [yN_yN]) (credit_rows r1M k) (owing (xN c) 3 slices + owing (yN c) 1 l)) $$ [Hx Hr2 Hr Ht Ht']
  · isplitl [Hx]; · iexact Hx
    isplitl [Hr2]; · iexact Hr2
    isplitl [Hr]; · iexact Hr
    isplitl [Ht]; · iexact Ht
    iexact Ht'
  iintro ⟨Hx, Hc⟩
  iapply Hk
  isplitl [Hx]; · iexact Hx
  isplitl [Hl]; · iexact Hl
  iexact Hc

def preStep (c : Dev nD) (k : Fin 16) : sProp 𝕄 :=
  iprop(crd c 1 k ∗ pos c 1 k ∗ owns (c : Thread nD τ) (rows pM k) fullShare.left (sl (pval m ρ c) k)
    ∗ anyS (F := F) c (rows qM k) ∗ anyS (F := F) (xN c) (rows r2M k) ∗ tok c 2 k ∗ tok (xN c) 3 k
    ∗ anyS (F := F) c (outM.slice (ownR c k) (fun _ => rfl)))
def postStep (c : Dev nD) (k : Fin 16) : sProp 𝕄 :=
  iprop(done c 1 k ∗ owns (c : Thread nD τ) (rows pM k) fullShare.left (sl (pval m ρ c) k)
    ∗ owns (c : Thread nD τ) (rows r1M k) fullShare (sl (pval m ρ (yN c)) k)
    ∗ owns (c : Thread nD τ) (rows qM k) fullShare.left (sl (qval m ρ c) k) ∗ crd c 2 k
    ∗ owns (c : Thread nD τ) (outM.slice (ownR c k) (fun _ => rfl)) fullShare (sl (qval m ρ c) k))

/-- Slice `k` of the partner's partial product awaited, added, sent on and written. -/
theorem pass_step (c : Dev nD) (k : Fin 16) (l : List (Fin 16)) (α : Type) (kont : PUnit → PT F α) (Q : α → sProp 𝕄) :
    iprop((ctx m ρ K c (owing (xN c) 3 (k :: l)) ∗ preStep m ρ c k)
        ∗ ((ctx m ρ K c (owing (xN c) 3 l) ∗ postStep m ρ c k) -∗ WP c (kont ⟨⟩) Q))
      ⊢ WP c (step c k >>= kont) Q := by
  unfold step preStep postStep anyS
  simp only [Prog.lift, Prog.bind_op, Prog.bind_ret, Prog.pure_eq_ret]
  iintro ⟨⟨Hx, Hc, Hat, Hp, ⟨%Y, Hq⟩, Hr2, Ht, Ht', ⟨%Z, Ho⟩⟩, Hk⟩
  iapply (wp_wait_slice m ρ K c 1 k (owing (xN c) 3 (k :: l)) (mayWait_v1 c k (k :: l)) (rows pM k) (rows r1M k) (credit_rows r1M k)) $$ [Hx Hc Hat]
  · isplitl [Hx]; · iexact Hx
    isplitl [Hc]; · iexact Hc
    iexact Hat
  iintro ⟨Hx, Hd, Hr1⟩
  ihave Hr1 := (Entails.of_eq (show dmaPay m ρ 1 k c = owns (c : Thread nD τ) (rows r1M k) fullShare (sl (pval m ρ (yN c)) k) from rfl)) $$ Hr1
  iapply (wp_load_slice c (M := pM) (r := rowR k) (fun _ => rfl)) $$ Hp; iintro Hp
  iapply (wp_load_slice c (M := r1M) (r := rowR k) (fun _ => rfl)) $$ Hr1; iintro Hr1
  iapply (wp_load_slice c (M := qM) (r := rowR k) (fun _ => rfl)) $$ Hq; iintro Hq
  iapply (wp_store_slice c (M := qM) (r := rowR k) (fun _ => rfl)) $$ Hq; iintro Hq
  rw [pay2_sl, owing_cons]
  ihave Hq2 := (owns_halves _ _ _ _).1 $$ Hq
  icases Hq2 with ⟨Hl, Hr⟩
  iapply (wp_send_slice m ρ K c (xN c) _ (dev19_eq c) 2 3 k qM r2M (qval m ρ c) rfl
    (by unfold dmaPay; dsimp only; rw [xN_xN]) (credit_rows r2M k) (owing (xN c) 3 l)) $$ [Hx Hr Hr2 Ht Ht']
  · isplitl [Hx]; · iexact Hx
    isplitl [Hr]; · iexact Hr
    isplitl [Hr2]; · unfold anyS; iexact Hr2
    isplitl [Ht]; · iexact Ht
    iexact Ht'
  iintro ⟨Hx, Hc⟩
  iapply (wp_load_slice c (M := qM) (r := rowR k) (fun _ => rfl)) $$ Hl; iintro Hl
  iapply (wp_load_slice c (M := outM) (r := ownR c k) (fun _ => rfl)) $$ Ho; iintro Ho
  iapply (wp_store_slice c (M := outM) (r := ownR c k) (fun _ => rfl)) $$ Ho; iintro Ho
  iapply Hk
  isplitl [Hx]; · iexact Hx
  isplitl [Hd]; · iexact Hd
  isplitl [Hp]; · iexact Hp
  isplitl [Hr1]; · iexact Hr1
  isplitl [Hl]; · iexact Hl
  isplitl [Hc]; · iexact Hc
  iexact Ho

def preGather (c : Dev nD) (k : Fin 16) : sProp 𝕄 :=
  iprop(crd c 3 k ∗ pos c 3 k ∗ anyS (F := F) c (outM.slice (othR c k) (fun _ => rfl)))
def postGather (c : Dev nD) (k : Fin 16) : sProp 𝕄 :=
  iprop(done c 3 k ∗ owns (c : Thread nD τ) (rows r2M k) fullShare (sl (qval m ρ (xN c)) k)
    ∗ owns (c : Thread nD τ) (outM.slice (othR c k) (fun _ => rfl)) fullShare (sl (qval m ρ (xN c)) k))

theorem mayWait_none (c : Dev nD) (sm : SemLoc sig) : (levAts L lv : sProp 𝕄) ⊢ MayWait (c : Thread nD τ) sm () 0 := by
  rw [MayWait_zero]; iintro -; iempintro

/-- Slice `k` of the other `x`'s sum awaited and written. -/
theorem pass_gather (c : Dev nD) (k : Fin 16) (l : List (Fin 16)) (α : Type) (kont : PUnit → PT F α) (Q : α → sProp 𝕄) :
    iprop((ctx m ρ K c 0 ∗ preGather c k) ∗ ((ctx m ρ K c 0 ∗ postGather m ρ c k) -∗ WP c (kont ⟨⟩) Q))
      ⊢ WP c (gather c k >>= kont) Q := by
  unfold gather preGather postGather anyS
  simp only [Prog.lift, Prog.bind_op, Prog.bind_ret, Prog.pure_eq_ret]
  iintro ⟨⟨Hx, Hc, Hat, ⟨%Z, Ho⟩⟩, Hk⟩
  iapply (wp_wait_slice m ρ K c 3 k 0 (mayWait_none c _) (rows qM k) (rows r2M k) (credit_rows r2M k)) $$ [Hx Hc Hat]
  · isplitl [Hx]; · iexact Hx
    isplitl [Hc]; · iexact Hc
    iexact Hat
  iintro ⟨Hx, Hd, Hr⟩
  ihave Hr := (Entails.of_eq (show dmaPay m ρ 3 k c = owns (c : Thread nD τ) (rows r2M k) fullShare (sl (qval m ρ (xN c)) k) from rfl)) $$ Hr
  iapply (wp_load_slice c (M := r2M) (r := rowR k) (fun _ => rfl)) $$ Hr; iintro Hr
  iapply (wp_load_slice c (M := outM) (r := othR c k) (fun _ => rfl)) $$ Ho; iintro Ho
  iapply (wp_store_slice c (M := outM) (r := othR c k) (fun _ => rfl)) $$ Ho; iintro Ho
  iapply Hk
  isplitl [Hx]; · iexact Hx
  isplitl [Hd]; · iexact Hd
  isplitl [Hr]; · iexact Hr
  iexact Ho

def preDrain (c : Dev nD) (k : Fin 16) : sProp 𝕄 :=
  iprop((crd c 0 k ∗ pos c 0 k ∗ owns (c : Thread nD τ) (rows pM k) fullShare.left (sl (pval m ρ c) k))
    ∗ crd c 2 k ∗ pos c 2 k ∗ owns (c : Thread nD τ) (rows qM k) fullShare.left (sl (qval m ρ c) k))
def postDrain (c : Dev nD) (k : Fin 16) : sProp 𝕄 :=
  iprop(done c 0 k ∗ owns (c : Thread nD τ) (rows pM k) fullShare (sl (pval m ρ c) k)
    ∗ done c 2 k ∗ owns (c : Thread nD τ) (rows qM k) fullShare (sl (qval m ρ c) k))

/-- The two sends of slice `k` awaited: the halves lent come back. -/
theorem pass_drain (c : Dev nD) (k : Fin 16) (l : List (Fin 16)) (α : Type) (kont : PUnit → PT F α) (Q : α → sProp 𝕄) :
    iprop((ctx m ρ K c 0 ∗ preDrain m ρ c k) ∗ ((ctx m ρ K c 0 ∗ postDrain m ρ c k) -∗ WP c (kont ⟨⟩) Q))
      ⊢ WP c (drain k >>= kont) Q := by
  unfold drain preDrain postDrain
  simp only [Prog.lift, Prog.bind_op, Prog.bind_ret, Prog.pure_eq_ret]
  iintro ⟨⟨Hx, ⟨Hc, Hat, Hp⟩, Hc', Hat', Hq⟩, Hk⟩
  iapply (wp_wait_slice m ρ K c 0 k 0 (mayWait_none c _) (rows r1M k) (rows pM k) (credit_rows pM k)) $$ [Hx Hc Hat]
  · isplitl [Hx]; · iexact Hx
    isplitl [Hc]; · iexact Hc
    iexact Hat
  iintro ⟨Hx, Hd, Hr⟩
  iapply (wp_wait_slice m ρ K c 2 k 0 (mayWait_none c _) (rows r2M k) (rows qM k) (credit_rows qM k)) $$ [Hx Hc' Hat']
  · isplitl [Hx]; · iexact Hx
    isplitl [Hc']; · iexact Hc'
    iexact Hat'
  iintro ⟨Hx, Hd', Hr'⟩
  ihave Hr := (Entails.of_eq (show dmaPay m ρ 0 k c = owns (c : Thread nD τ) (rows pM k) fullShare.right (sl (pval m ρ c) k) from rfl)) $$ Hr
  ihave Hr' := (Entails.of_eq (show dmaPay m ρ 2 k c = owns (c : Thread nD τ) (rows qM k) fullShare.right (sl (qval m ρ c) k) from rfl)) $$ Hr'
  ihave Hp2 := (owns_halves (c : Thread nD τ) (rows pM k) fullShare (sl (pval m ρ c) k)).2 $$ [Hp Hr]
  · isplitl [Hp]; · iexact Hp
    iexact Hr
  ihave Hq2 := (owns_halves (c : Thread nD τ) (rows qM k) fullShare (sl (qval m ρ c) k)).2 $$ [Hq Hr']
  · isplitl [Hq]; · iexact Hq
    iexact Hr'
  iapply Hk
  isplitl [Hx]; · iexact Hx
  isplitl [Hd]; · iexact Hd
  isplitl [Hp2]; · iexact Hp2
  isplitl [Hd']; · iexact Hd'
  iexact Hq2

end Cert.KernelIdealProof

end
-- ==== Proof.KernelIdeal.Prologue.lean ====
/-
  The prologue: the entry handshake and the device's own partial product; and chains over the slices.
-/
module

public import proofs.«01_k».proof.Proof.KernelIdeal.Passes

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## Chains over the slices -/

theorem sl_sep (Φ Ψ : Fin 16 → sProp 𝕄) : bigSepL slices (fun k => iprop(Φ k ∗ Ψ k)) = iprop(bigSepL slices Φ ∗ bigSepL slices Ψ) := by
  rw [← bigSep_univ_eq_bigSepL slices (by decide) (by decide), ← bigSep_univ_eq_bigSepL slices (by decide) (by decide),
    ← bigSep_univ_eq_bigSepL slices (by decide) (by decide)]
  exact bigSep_sep' _ _ _

theorem rows_any (c : Dev nD) (M : Memref sig .tc .vmem S256x512 .f32) :
    anyOf c M ⊢ (bigSepL slices fun k => anyS c (rows M k) : sProp 𝕄) := by
  unfold anyOf
  iintro ⟨%X, H⟩
  iapply ((rows_split c M fullShare X).trans (bigSepL_mono fun k _ => show _ ⊢ anyS c (rows M k) from by
    unfold anyS; iintro H; iexists (sl X k); iexact H))
  iexact H

theorem rows_some (c : Dev nD) (M : Memref sig .tc .vmem S256x512 .f32) (X : Vec F S256x512 .f32) :
    (bigSepL slices fun k => owns (c : Thread nD τ) (rows M k) fullShare (sl X k)) ⊢ (anyOf c M : sProp 𝕄) := by
  refine (rows_join c M fullShare X).trans ?_
  unfold anyOf
  iintro H; iexists X; iexact H

theorem out_any (c : Dev nD) (X : Vec F S512x512 .f32) :
    (owns (c : Thread nD τ) outM fullShare X : sProp 𝕄)
      ⊢ iprop((bigSepL slices fun k => anyS c (outM.slice (ownR c k) (fun _ => rfl)))
          ∗ bigSepL slices fun k => anyS c (outM.slice (othR c k) (fun _ => rfl))) := by
  refine (out_split c X).trans (BI.sep_mono (bigSepL_mono fun k _ => ?_) (bigSepL_mono fun k _ => ?_))
  · unfold anyS; iintro H; iexists (fun j => X ((ownR c k).emb j)); iexact H
  · unfold anyS; iintro H; iexists (fun j => X ((othR c k).emb j)); iexact H

theorem out_result (c : Dev nD) :
    iprop((bigSepL slices fun k => owns (c : Thread nD τ) (outM.slice (ownR c k) (fun _ => rfl)) fullShare (sl (qval m ρ c) k))
          ∗ bigSepL slices fun k => owns (c : Thread nD τ) (outM.slice (othR c k) (fun _ => rfl)) fullShare (sl (qval m ρ (xN c)) k))
      ⊢ (owns (c : Thread nD τ) outM fullShare (outval m ρ c) : sProp 𝕄) := by
  refine BIBase.Entails.trans ?_ (out_join c (outval m ρ c))
  refine BI.sep_mono (bigSepL_mono fun k _ => ?_) (bigSepL_mono fun k _ => ?_)
  · rw [outval_own]
  · rw [outval_oth]

/-! ## The prologue -/

theorem hz : (![0, 0] : Fin 2 → Nat) = fun _ => 0 := funext fun a => by fin_cases a <;> rfl

/-- A whole buffer of device `c` at `X`. -/
abbrev wh (c : Dev nD) (b : Ref sig .tc) (X : b.ty.Contents (Elt F)) : sProp 𝕄 := (((c : Thread nD τ).loc b) ↦{fullShare} X)

def prePro (c : Dev nD) : sProp 𝕄 :=
  iprop(atPos ER (barCell c) 0 ∅ 0 ∗ dutyTok ER (barCell (yN c)) 0 false ∗ dutyTok ER (barCell (xN c)) 0 true ∗ cred (tallyAt (barCell c) () 2)
    ∗ anyOf (F := F) c r1M ∗ anyOf (F := F) c r2M ∗ anyOf (F := F) c pM ∗ wh c cc0_stg0_0 (dyAt m ρ c) ∗ wh c cc0_stg1_0 (wAt m ρ c))
def postPro (c : Dev nD) : sProp 𝕄 :=
  iprop(semVal (barCell c) 0 ∗ anyOf (F := F) (yN c) r1M ∗ anyOf (F := F) (xN c) r2M ∗ owns (c : Thread nD τ) pM fullShare (pval m ρ c)
    ∗ wh c cc0_stg0_0 (dyAt m ρ c) ∗ wh c cc0_stg1_0 (wAt m ρ c))

/-- The handshake lends the landing buffers to the neighbours and brings theirs; the partial product is computed. -/
theorem run_prologue (c : Dev nD) (α : Type) (kont : PUnit → PT F α) (Q : α → sProp 𝕄) :
    iprop((ctx m ρ K c (O₀ c) ∗ prePro m ρ c) ∗ ((ctx m ρ K c (O₂ c) ∗ postPro m ρ c) -∗ WP c (kont ⟨⟩) Q))
      ⊢ WP c (prologue c >>= kont) Q := by
  unfold prologue prePro postPro ctx
  simp only [semSignalWord, semWaitWord, Prog.lift, Prog.bind_op, Prog.bind_ret, Prog.pure_eq_ret]
  simp only [dev1_eq c, dev2_eq c]
  iintro ⟨⟨⟨⟨#HR, #Hlev⟩, ⟨%W, HO⟩⟩, HatB, HtY, HtX, HcB, Hr1, Hr2, Hp, Hdy, Hw⟩, Hk⟩
  iapply (Rounds.wp_signal 𝒱₀ ER (rd m ρ) (c : Thread nD τ) none (dst := (yN c : Thread nD τ)) (κ := K (yN c, .inl ()))
      (d := false) (by rw [duties_bar]; exact Finset.mem_univ _) ((amount_bar m ρ (yN c) false).trans (by decide)) () (O₁ c) rfl)
    $$ [HO HtY Hr1]
  · isplitr; · iapply (inv_bar m ρ K (yN c)); iexact HR
    isplitl [HO]; · iexact HO
    isplitl [HtY]; · iexact HtY
    isplitl [Hr1]
    · iapply (Entails.of_eq (show anyOf c r1M = (rd m ρ).payload (barCell (yN c)) 0 false from
        (congrArg (fun d => anyOf d r1M) (yN_yN c).symm).trans (payload_bar m ρ (yN c) false).symm))
      iexact Hr1
    iapply (at_bar m ρ K (yN c)); iexact HR
  iintro HO
  iapply (Rounds.wp_signal 𝒱₀ ER (rd m ρ) (c : Thread nD τ) none (dst := (xN c : Thread nD τ)) (κ := K (xN c, .inl ()))
      (d := true) (by rw [duties_bar]; exact Finset.mem_univ _) ((amount_bar m ρ (xN c) true).trans (by decide)) () (O₂ c) rfl)
    $$ [HO HtX Hr2]
  · isplitr; · iapply (inv_bar m ρ K (xN c)); iexact HR
    isplitl [HO]; · iexact HO
    isplitl [HtX]; · iexact HtX
    isplitl [Hr2]
    · iapply (Entails.of_eq (show anyOf c r2M = (rd m ρ).payload (barCell (xN c)) 0 true from
        (congrArg (fun d => anyOf d r2M) (xN_xN c).symm).trans (payload_bar m ρ (xN c) true).symm))
      iexact Hr2
    iapply (at_bar m ρ K (xN c)); iexact HR
  iintro HO
  iapply (wp_load 𝒱₀ (c : Thread nD τ) none Set.univ (m := dyM) (Finset.subset_univ _)) $$ Hdy; iintro Hdy
  iapply (wp_load 𝒱₀ (c : Thread nD τ) none Set.univ (m := wM) (Finset.subset_univ _)) $$ Hw; iintro Hw
  unfold anyOf
  icases Hp with ⟨%P, Hp⟩
  ihave Hp := (Entails.of_eq (owns_whole (c : Thread nD τ) cc0_scratch0 fullShare P)) $$ Hp
  iapply (wp_load 𝒱₀ (c : Thread nD τ) none Set.univ (m := pM) (Finset.subset_univ _)) $$ Hp; iintro Hp
  iapply (wp_store 𝒱₀ (c : Thread nD τ) none Set.univ (m := pM) (r := pR) (Mk := Finset.univ) (Finset.subset_univ _)) $$ Hp; iintro Hp
  rw [show ((pM : Memref sig .tc .vmem S256x512 .f32).access pR : View sig .tc _ _ _).write (Elt F) P
      (k0_pay1 ((dyM : Memref sig .tc .vmem S512x2048 .f32).view.readAt (Elt F) (dyR c).toLoadRect (dyAt m ρ c))
        ((wM : Memref sig .tc .vmem S512x2048 .f32).view.readAt (Elt F) wR.toLoadRect (wAt m ρ c))) Finset.univ = pval m ρ c from
    (Memref.write_access_unit_zero_univ (Elt F) cc0_scratch0 hz _ _ _).trans
      (congrArg (k0_pay1 _) (Memref.readAt_unit_zero (Elt F) cc0_stg1_0 hz _ _))]
  iapply (Rounds.wp_wait_rest_token 𝒱₀ ER (rd m ρ) (c : Thread nD τ) none (κ := K (c, .inl ()))
      (wpE_semWait_eq 𝒱₀ (c : Thread nD τ) none Set.univ) (Set.mem_univ _) () (O := O₂ c) (W := W) (R := 0) (m := 0) (T := ∅)
      (by rw [expect_bar]; decide)) $$ [HcB HO HatB]
  · isplitr; · iapply (inv_bar m ρ K c); iexact HR
    isplitl [HcB]; · iexact HcB
    isplitl [HO]; · iexact HO
    isplitr; · iapply (mayWait_bar c); iexact Hlev
    iexact HatB
  iintro ⟨HO, HatB, -, Hpay⟩
  ihave Hp' := (Entails.of_eq (rest_bar m ρ c)) $$ Hpay
  unfold anyOf
  icases Hp' with ⟨Hy, Hx⟩
  imod (Rounds.cell_close ER (rd m ρ) (Set.mem_univ (K (c, .inl ()))) (fun h => h) (R := 0 + 1) (duties_later m ρ (barCell c))) $$ [HatB] with Hz
  · isplitr; · iapply (inv_bar m ρ K c); iexact HR
    iexact HatB
  iapply Hk
  isplitl [HO]
  · isplitr
    · isplitr; · iexact HR
      iexact Hlev
    iexists _; iexact HO
  isplitl [Hz]; · iexact Hz
  isplitl [Hy]; · iexact Hy
  isplitl [Hx]; · iexact Hx
  isplitl [Hp]
  · iapply (Entails.of_eq (owns_whole (c : Thread nD τ) cc0_scratch0 fullShare (pval m ρ c)).symm)
    iexact Hp
  isplitl [Hdy]; · iexact Hdy
  iexact Hw

end Cert.KernelIdealProof

end
-- ==== Proof.KernelIdeal.Body.lean ====
/-
  The kernel's body on one device: prologue, sends, sums, gather and drain; and the launch's obligation for it.
-/
module

public import proofs.«01_k».proof.Proof.KernelIdeal.Prologue

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## What each loop takes and gives, as chains over the slices -/

/-- The duty tokens of array `j`'s cells of device `c`, one a slice; -/
abbrev toksL (c : Dev nD) (j : Fin 4) : sProp 𝕄 := bigSepL slices fun k => tok c j k
/-- its positions at round 0 of those cells; -/
abbrev possL (c : Dev nD) (j : Fin 4) : sProp 𝕄 := bigSepL slices fun k => pos c j k
/-- its credits there; -/
abbrev crdsL (c : Dev nD) (j : Fin 4) : sProp 𝕄 := bigSepL slices fun k => crd c j k
/-- those cells closed, at zero. -/
abbrev donesL (c : Dev nD) (j : Fin 4) : sProp 𝕄 := bigSepL slices fun k => done c j k
/-- Buffer `M` of device `c` slice by slice at unknown contents; -/
abbrev anyL (c : Dev nD) (M : Memref sig .tc .vmem S256x512 .f32) : sProp 𝕄 := bigSepL slices fun k => anyS c (rows M k)
/-- at `X`, share `q`. -/
abbrev someL (c : Dev nD) (M : Memref sig .tc .vmem S256x512 .f32) (q : PosShare TreeShare) (X : Vec F S256x512 .f32) : sProp 𝕄 :=
  bigSepL slices fun k => owns (c : Thread nD τ) (rows M k) q (sl X k)
/-- The device's own half of the output block, slice by slice, at unknown contents and at `X`; -/
abbrev ownAny (c : Dev nD) : sProp 𝕄 := bigSepL slices fun k => anyS c (outM.slice (ownR c k) (fun _ => rfl))
abbrev ownL (c : Dev nD) (X : Vec F S256x512 .f32) : sProp 𝕄 :=
  bigSepL slices fun k => owns (c : Thread nD τ) (outM.slice (ownR c k) (fun _ => rfl)) fullShare (sl X k)
/-- the other half. -/
abbrev othAny (c : Dev nD) : sProp 𝕄 := bigSepL slices fun k => anyS c (outM.slice (othR c k) (fun _ => rfl))
abbrev othL (c : Dev nD) (X : Vec F S256x512 .f32) : sProp 𝕄 :=
  bigSepL slices fun k => owns (c : Thread nD τ) (outM.slice (othR c k) (fun _ => rfl)) fullShare (sl X k)

theorem preSend_all (c : Dev nD) : bigSepL slices (preSend m ρ c)
    = iprop(someL c pM fullShare (pval m ρ c) ∗ anyL (yN c) r1M ∗ toksL c 0 ∗ toksL (yN c) 1) := by
  unfold preSend; simp only [sl_sep]
theorem postSend_all (c : Dev nD) : bigSepL slices (postSend m ρ c)
    = iprop(someL c pM fullShare.left (pval m ρ c) ∗ crdsL c 0) := by
  unfold postSend; simp only [sl_sep]
theorem preStep_all (c : Dev nD) : bigSepL slices (preStep m ρ c)
    = iprop(crdsL c 1 ∗ possL c 1 ∗ someL c pM fullShare.left (pval m ρ c) ∗ anyL c qM ∗ anyL (xN c) r2M ∗ toksL c 2 ∗ toksL (xN c) 3 ∗ ownAny c) := by
  unfold preStep; simp only [sl_sep]
theorem postStep_all (c : Dev nD) : bigSepL slices (postStep m ρ c)
    = iprop(donesL c 1 ∗ someL c pM fullShare.left (pval m ρ c) ∗ someL c r1M fullShare (pval m ρ (yN c))
        ∗ someL c qM fullShare.left (qval m ρ c) ∗ crdsL c 2 ∗ ownL c (qval m ρ c)) := by
  unfold postStep; simp only [sl_sep]
theorem preGather_all (c : Dev nD) : bigSepL slices (preGather (F := F) c) = iprop(crdsL c 3 ∗ possL c 3 ∗ othAny c) := by
  unfold preGather; simp only [sl_sep]
theorem postGather_all (c : Dev nD) : bigSepL slices (postGather m ρ c)
    = iprop(donesL c 3 ∗ someL c r2M fullShare (qval m ρ (xN c)) ∗ othL c (qval m ρ (xN c))) := by
  unfold postGather; simp only [sl_sep]
theorem preDrain_all (c : Dev nD) : bigSepL slices (preDrain m ρ c)
    = iprop((crdsL c 0 ∗ possL c 0 ∗ someL c pM fullShare.left (pval m ρ c)) ∗ crdsL c 2 ∗ possL c 2 ∗ someL c qM fullShare.left (qval m ρ c)) := by
  unfold preDrain; simp only [sl_sep]
theorem postDrain_all (c : Dev nD) : bigSepL slices (postDrain m ρ c)
    = iprop(donesL c 0 ∗ someL c pM fullShare (pval m ρ c) ∗ donesL c 2 ∗ someL c qM fullShare (qval m ρ c)) := by
  unfold postDrain; simp only [sl_sep]

/-! ## The body -/

/-- Device `c`'s ghost state: its position at the barrier's round 0, the two duty tokens of its neighbours' barriers,
    its positions at the cells it waits on, and the duty tokens of the cells it pays. -/
def ghost (c : Dev nD) : sProp 𝕄 :=
  iprop(atPos ER (barCell c) 0 ∅ 0 ∗ dutyTok ER (barCell (yN c)) 0 false ∗ dutyTok ER (barCell (xN c)) 0 true
    ∗ possL c 0 ∗ possL c 1 ∗ possL c 2 ∗ possL c 3 ∗ toksL c 0 ∗ toksL (yN c) 1 ∗ toksL c 2 ∗ toksL (xN c) 3)
/-- The credits of its barrier and of the cells its neighbours' transfers signal. -/
def credits (c : Dev nD) : sProp 𝕄 := iprop(cred (tallyAt (barCell c) () 2) ∗ crdsL c 1 ∗ crdsL c 3)
/-- Its four scratch buffers, at unknown contents. -/
def scr (c : Dev nD) : sProp 𝕄 := iprop(anyOf (F := F) c pM ∗ anyOf (F := F) c qM ∗ anyOf (F := F) c r1M ∗ anyOf (F := F) c r2M)
/-- Its 64 transfer cells, at zero. -/
def zeros (c : Dev nD) : sProp 𝕄 := iprop(donesL c 0 ∗ donesL c 1 ∗ donesL c 2 ∗ donesL c 3)

def preBody (c : Dev nD) (X : Vec F S512x512 .f32) : sProp 𝕄 :=
  iprop(ghost c ∗ credits c ∗ scr (F := F) c ∗ wh c cc0_stg0_0 (dyAt m ρ c) ∗ wh c cc0_stg1_0 (wAt m ρ c) ∗ wh c cc0_stg2_0 X)
def postBody (c : Dev nD) : sProp 𝕄 :=
  iprop(scr (F := F) c ∗ zeros c ∗ semVal (barCell c) 0 ∗ wh c cc0_stg0_0 (dyAt m ρ c) ∗ wh c cc0_stg1_0 (wAt m ρ c)
    ∗ wh c cc0_stg2_0 (outval m ρ c))

theorem owing_nil (c : Dev nD) (j : Fin 4) : owing c j [] = 0 := rfl

/-- The whole body on device `c`, from what it starts with to its result. -/
theorem run_body (c : Dev nD) (X : Vec F S512x512 .f32) (Q : PUnit → sProp 𝕄) :
    iprop((ctx m ρ K c (O₀ c) ∗ preBody m ρ c X) ∗ ((ctx m ρ K c 0 ∗ postBody m ρ c) -∗ Q ⟨⟩)) ⊢ WP c (bodyOn c) Q := by
  unfold bodyOn preBody postBody ghost credits scr zeros
  iintro ⟨⟨Hx, ⟨HatB, HtY, HtX, A0, A1, A2, A3, T0, T1, T2, T3⟩, ⟨HcB, C1, C3⟩, ⟨Hp, Hq, Hr1, Hr2⟩, Hdy, Hw, Ho⟩, Hk⟩
  iapply (run_prologue m ρ K c)
  isplitl [Hx HatB HtY HtX HcB Hr1 Hr2 Hp Hdy Hw]
  · isplitl [Hx]; · iexact Hx
    unfold prePro
    isplitl [HatB]; · iexact HatB
    isplitl [HtY]; · iexact HtY
    isplitl [HtX]; · iexact HtX
    isplitl [HcB]; · iexact HcB
    isplitl [Hr1]; · iexact Hr1
    isplitl [Hr2]; · iexact Hr2
    isplitl [Hp]; · iexact Hp
    isplitl [Hdy]; · iexact Hdy
    iexact Hw
  unfold postPro
  iintro ⟨Hx, Hz, Hr1, Hr2, Hp, Hdy, Hw⟩
  ihave Hp := (rows_split c pM fullShare (pval m ρ c)) $$ Hp
  ihave Hr1 := (rows_any (yN c) r1M) $$ Hr1
  ihave Hr2 := (rows_any (xN c) r2M) $$ Hr2
  ihave Hq := (rows_any c qM) $$ Hq
  ihave Ho := (Entails.of_eq (owns_whole (c : Thread nD τ) cc0_stg2_0 fullShare X).symm) $$ Ho
  ihave Ho := (out_any c X) $$ Ho
  icases Ho with ⟨Ho1, Ho2⟩
  -- the first exchange's sends
  iapply (wp_forEach c (send1 c) (fun l => ctx m ρ K c (owing (xN c) 3 slices + owing (yN c) 1 l)) (preSend m ρ c) (postSend m ρ c)
    (pass_send m ρ K c))
  isplitl [Hx Hp Hr1 T0 T1]
  · isplitl [Hx]; · iexact Hx
    iapply (Entails.of_eq (preSend_all m ρ c).symm)
    isplitl [Hp]; · iexact Hp
    isplitl [Hr1]; · iexact Hr1
    isplitl [T0]; · iexact T0
    iexact T1
  rw [postSend_all, owing_nil, add_zero]
  iintro ⟨Hx, Hp, C0⟩
  -- the sums
  iapply (wp_forEach c (step c) (fun l => ctx m ρ K c (owing (xN c) 3 l)) (preStep m ρ c) (postStep m ρ c) (pass_step m ρ K c))
  isplitl [Hx Hp C1 A1 Hq Hr2 T2 T3 Ho1]
  · isplitl [Hx]; · iexact Hx
    iapply (Entails.of_eq (preStep_all m ρ c).symm)
    isplitl [C1]; · iexact C1
    isplitl [A1]; · iexact A1
    isplitl [Hp]; · iexact Hp
    isplitl [Hq]; · iexact Hq
    isplitl [Hr2]; · iexact Hr2
    isplitl [T2]; · iexact T2
    isplitl [T3]; · iexact T3
    iexact Ho1
  rw [postStep_all, owing_nil]
  iintro ⟨Hx, Z1, Hp, Hr1, Hq, C2, Ho1⟩
  -- the other half
  iapply (wp_forEach c (gather c) (fun _ => ctx m ρ K c 0) (preGather c) (postGather m ρ c) (pass_gather m ρ K c))
  isplitl [Hx C3 A3 Ho2]
  · isplitl [Hx]; · iexact Hx
    iapply (Entails.of_eq (preGather_all c).symm)
    isplitl [C3]; · iexact C3
    isplitl [A3]; · iexact A3
    iexact Ho2
  rw [postGather_all]
  iintro ⟨Hx, Z3, Hr2, Ho2⟩
  -- the sends awaited
  rw [← Prog.bind_pure (forEach drain slices)]
  iapply (wp_forEach c drain (fun _ => ctx m ρ K c 0) (preDrain m ρ c) (postDrain m ρ c) (pass_drain m ρ K c))
  isplitl [Hx C0 A0 Hp C2 A2 Hq]
  · isplitl [Hx]; · iexact Hx
    iapply (Entails.of_eq (preDrain_all m ρ c).symm)
    isplitl [C0 A0 Hp]
    · isplitl [C0]; · iexact C0
      isplitl [A0]; · iexact A0
      iexact Hp
    isplitl [C2]; · iexact C2
    isplitl [A2]; · iexact A2
    iexact Hq
  rw [postDrain_all]
  iintro ⟨Hx, Z0, Hp, Z2, Hq⟩
  unfold WP; rw [Prog.pure_eq_ret, wp_ret]
  imodintro
  iapply Hk
  isplitl [Hx]; · iexact Hx
  isplitl [Hp Hq Hr1 Hr2]
  · isplitl [Hp]; · iapply (rows_some c pM (pval m ρ c)); iexact Hp
    isplitl [Hq]; · iapply (rows_some c qM (qval m ρ c)); iexact Hq
    isplitl [Hr1]; · iapply (rows_some c r1M (pval m ρ (yN c))); iexact Hr1
    iapply (rows_some c r2M (qval m ρ (xN c))); iexact Hr2
  isplitl [Z0 Z1 Z2 Z3]
  · isplitl [Z0]; · iexact Z0
    isplitl [Z1]; · iexact Z1
    isplitl [Z2]; · iexact Z2
    iexact Z3
  isplitl [Hz]; · iexact Hz
  isplitl [Hdy]; · iexact Hdy
  isplitl [Hw]; · iexact Hw
  iapply (Entails.of_eq (owns_whole (c : Thread nD τ) cc0_stg2_0 fullShare (outval m ρ c)))
  iapply (out_result m ρ c)
  isplitl [Ho1]; · iexact Ho1
  iexact Ho2

/-! ## The pipeline's proof data -/

/-- Before the one grid point: the body's ghost state under the names its invariants were allocated at, its credits, the levels, and the scratch buffers. -/
def Φ₀ (c : Dev nD) : sProp 𝕄 :=
  iprop((((∃ K, records m ρ K) ∗ ghost c) ∗ credits c ∗ levAts L lv) ∗ scr (F := F) c)
/-- After it: the scratch buffers, and every cell closed at zero. -/
def Φ₁ (c : Dev nD) : sProp 𝕄 := iprop(scr (F := F) c ∗ zeros c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => dyAt m ρ c
    | ⟨1, _⟩ => wAt m ρ c
    | ⟨2, _⟩ => outval m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ ∗ stg c cc0_stg0_0 (dyAt m ρ c) ∗ stg c cc0_stg1_0 (wAt m ρ c) ∗ stg c cc0_stg2_0 (outval m ρ c))

theorem fetch_0 : (cfg0.win (0 : Fin 3)).fetch t0_0 = true := rfl
theorem fetch_1 : (cfg0.win (1 : Fin 3)).fetch t0_0 = true := rfl

/-- The body from the pipeline's precondition to its postcondition. -/
theorem sound_body (c : Dev nD) :
    bodyPre m ρ c ⊢ wp frame (wpE (defs₀ (F := F)) 𝒱₀ c none) Set.univ
      (cc0_body dyM (Memref.isWhole_whole _) wM (Memref.isWhole_whole _) outM (Memref.isWhole_whole _)
        pM (Memref.isWhole_whole _) qM (Memref.isWhole_whole _) r1M (Memref.isWhole_whole _) r2M (Memref.isWhole_whole _)
        cc0_scratch4 cc0_scratch5 cc0_scratch6 cc0_scratch7) (fun _ => bodyPost m ρ c) := by
  rw [body_eq]
  simp only [Prog.lift, Prog.bind_op, Prog.bind_ret, Prog.pure_eq_ret, wp_deviceId]
  unfold bodyPre Φ₀ Dat.owesAt Pipeline.owesWithin
  iintro ⟨⟨⟨⟨⟨%K, HR⟩, Hg⟩, Hc, Hlev⟩, Hs⟩, ⟨%W, %hW, HO⟩, ⟨%d0, %g0, %hg0, Hdy⟩, ⟨%d1, %g1, %hg1, Hw⟩, ⟨%d2, %g2, %hg2, Ho⟩⟩
  have h0 : g0 = dyAt m ρ c := by rw [hg0]; unfold Dat.before; rw [if_pos fetch_0]; rfl
  have h1 : g1 = wAt m ρ c := by rw [hg1]; unfold Dat.before; rw [if_pos fetch_1]; rfl
  subst h0 h1
  iapply (run_body m ρ K c g2)
  isplitl
  · unfold ctx preBody
    isplitl [HR Hlev HO]
    · isplitl [HR Hlev]
      · isplitl [HR]; · iexact HR
        iexact Hlev
      iexists W; iexact HO
    isplitl [Hg]; · iexact Hg
    isplitl [Hc]; · iexact Hc
    isplitl [Hs]; · iexact Hs
    isplitl [Hdy]; · iexact Hdy
    isplitl [Hw]; · iexact Hw
    iexact Ho
  unfold ctx postBody bodyPost Φ₁ Dat.owesAt Pipeline.owesWithin
  rw [show (dats m ρ 0 c).owed t0_0.succ = 0 from rfl]
  iintro ⟨⟨-, ⟨%W', HO⟩⟩, Hs, Hz, Hzb, Hdy, Hw, Ho⟩
  isplitl [Hs Hz Hzb]
  · isplitl [Hs]; · iexact Hs
    isplitl [Hz]; · iexact Hz
    iexact Hzb
  isplitl [HO]
  · iexists W'
    isplitr; · ipureintro; exact fun _ _ => Or.inl trivial
    iexact HO
  isplitl [Hdy]
  · iexists _; isplitr; · (ipureintro; rfl)
    iexact Hdy
  isplitl [Hw]
  · iexists _; isplitr; · (ipureintro; rfl)
    iexact Hw
  iexists _; isplitr; · (ipureintro; rfl)
  iexact Ho

set_option maxRecDepth 65536 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

end Cert.KernelIdealProof

end
-- ==== Proof.KernelIdeal.Launch.lean ====
/-
  The launch: the cells' ghost state minted and dealt to the devices, the credits they start with, and the run of @main.
-/
module

public import proofs.«01_k».proof.Proof.KernelIdeal.Body
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over the cells -/

/-- The 64 transfer semaphores are the kernel's own. -/
abbrev osem : Fin 4 × Fin 16 → SemLoc sig := fun jk => .dma (dsem jk.1 jk.2)

theorem staging_dec : ∀ (w : Fin cfg0.W) (s : Fin (cfg0.win w).nbuf), dec ((cfg0.win w).sem s) = none := by decide +kernel

theorem ownSemFacts : Pipeline.OwnSemFacts cfg0.spec osem where
  isScoped := by decide +kernel
  inj := fun a b h => Prod.ext (dsem_inj (SemLoc.dma.inj h)).1 (dsem_inj (SemLoc.dma.inj h)).2
  disj := fun k w s h => by
    have h1 := congrArg dec (SemLoc.dma.inj h)
    rw [dec_dsem] at h1
    exact absurd (h1.trans (staging_dec w s)) (by simp)

theorem bigSep_jk (Φ : Fin 4 × Fin 16 → sProp 𝕄) : bigSep Finset.univ Φ
    = iprop((bigSepL slices fun k => Φ (0, k)) ∗ (bigSepL slices fun k => Φ (1, k)) ∗ (bigSepL slices fun k => Φ (2, k)) ∗ bigSepL slices fun k => Φ (3, k)) := by
  have h (j : Fin 4) : (bigSep Finset.univ fun k => Φ (j, k)) = bigSepL slices fun k => Φ (j, k) := bigSep_univ_eq_bigSepL slices (by decide) (by decide) _
  rw [bigSep_univ_prod, bigSep_univ_eq_bigSepL [(0 : Fin 4), 1, 2, 3] (by decide) (by decide)]
  show iprop((bigSep Finset.univ fun k => Φ (0, k)) ∗ (bigSep Finset.univ fun k => Φ (1, k)) ∗ (bigSep Finset.univ fun k => Φ (2, k)) ∗ (bigSep Finset.univ fun k => Φ (3, k))) = _
  rw [h, h, h, h]

theorem bigSep_CI (Φ : CI → sProp 𝕄) : bigSep Finset.univ Φ
    = iprop(Φ (.inl ()) ∗ (bigSepL slices fun k => Φ (.inr (0, k))) ∗ (bigSepL slices fun k => Φ (.inr (1, k)))
        ∗ (bigSepL slices fun k => Φ (.inr (2, k))) ∗ bigSepL slices fun k => Φ (.inr (3, k))) := by
  rw [BI.bigSep_univ_sum, bigSep_jk, bigSep_univ_eq_bigSepL [()] (by decide) (by decide)]; rfl

/-! ## The ghost state minted and dealt -/

theorem share_eq (c : Dev nD) (w : Fin cfg0.W) : (dats m ρ 0 c).share w = fullShare := by unfold Dat.share; split <;> rfl

theorem csem_injective : Function.Injective csem := by
  rintro (_ | ⟨j, k⟩) (_ | ⟨j', k'⟩) h
  · rfl
  · cases h
  · cases h
  · obtain ⟨rfl, rfl⟩ := dsem_inj (SemLoc.dma.inj h); rfl
theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]
def kCells : Finset (GSem nD τ sig) := Finset.univ.map ⟨kcell, kcell_injective⟩

/-- The duty tokens of a device's own cells: its barrier's two, and one of each transfer cell. -/
abbrev TI : Type := Bool ⊕ (Fin 4 × Fin 16)
abbrev tokOf : Dev nD × TI → GSem nD τ sig × ℕ × Bool
  | (c, .inl b) => (barCell c, 0, b)
  | (c, .inr jk) => (dcell c jk.1 jk.2, 0, false)
theorem tokOf_injective : Function.Injective tokOf := by
  rintro ⟨c, b | ⟨j, k⟩⟩ ⟨c', b' | ⟨j', k'⟩⟩ h
  · have h1 : barCell c = barCell c' := congrArg Prod.fst h
    have h2 : b = b' := congrArg (fun x : GSem nD τ sig × ℕ × Bool => x.2.2) h
    rw [barCell_inj h1, h2]
  · exact absurd (congrArg Prod.fst h) (bar_ne_dcell c c' j' k')
  · exact absurd (congrArg Prod.fst h).symm (bar_ne_dcell c' c j k)
  · obtain ⟨rfl, rfl, rfl⟩ := dcell_inj (show dcell c j k = dcell c' j' k' from congrArg Prod.fst h); rfl
def kToks : Finset (GSem nD τ sig × ℕ × Bool) := Finset.univ.map ⟨tokOf, tokOf_injective⟩

def u₀ : UU := (initOf (Pipeline.cells cfgs cellOf_inj) (Pipeline.launchToks cfgs cellOf_inj), initOf kCells kToks)

/-- The duty tokens of device `c`'s own cells; -/
def toks (c : Dev nD) : sProp 𝕄 :=
  iprop((dutyTok ER (barCell c) 0 false ∗ dutyTok ER (barCell c) 0 true) ∗ toksL c 0 ∗ toksL c 1 ∗ toksL c 2 ∗ toksL c 3)
/-- those of the duties it pays. -/
def payToks (c : Dev nD) : sProp 𝕄 :=
  iprop((dutyTok ER (barCell (yN c)) 0 false ∗ dutyTok ER (barCell (xN c)) 0 true) ∗ toksL c 0 ∗ toksL (yN c) 1 ∗ toksL c 2 ∗ toksL (xN c) 3)

/-- What the launch element deals device `c`, -/
def G (c : Dev nD) : sProp 𝕄 :=
  iprop((bigSep Finset.univ fun k : CI => roundState ER (rd m ρ) (kcell (c, k)) 0)
    ∗ (bigSep Finset.univ fun k : CI => iprop(atPos ER (kcell (c, k)) 0 ∅ 0 ∗ reached ER (kcell (c, k)) 0)) ∗ toks c)
/-- and what the exchange of tokens makes of it. -/
def G' (c : Dev nD) : sProp 𝕄 := iprop((∃ K, records m ρ K) ∗ ghost c)

theorem fund_cells : BI.own (ER (initOf kCells kToks)) ⊢ (|==> bigSep Finset.univ (G m ρ) : sProp 𝕄) := by
  have hX (Φ : GSem nD τ sig → sProp 𝕄) : bigSep kCells Φ = bigSep Finset.univ fun c : Dev nD => bigSep Finset.univ fun k : CI => Φ (kcell (c, k)) := by
    unfold kCells; rw [bigSep_map, bigSep_univ_prod]; rfl
  have hT : bigSep kToks (fun x => (dutyTok ER x.1 x.2.1 x.2.2 : sProp 𝕄)) = bigSep Finset.univ fun c : Dev nD => toks c := by
    unfold kToks; rw [bigSep_map, bigSep_univ_prod]
    exact bigSep_congr fun c _ => by
      unfold toks; rw [BI.bigSep_univ_sum, bigSep_jk, bigSep_univ_eq_bigSepL [false, true] (by decide) (by decide)]; rfl
  iintro HX
  imod (Rounds.fund ER (rd m ρ) kCells kToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-- The own semaphores at zero are the transfer cells at zero; -/
theorem ownSems0_eq (c : Dev nD) : (Pipeline.ownSems0 (Ix := Unit) (Name := ℕ) (U := UU) (Lvl := ℕ) (Val := Elt F) (τ := τ) osem c : sProp 𝕄) = zeros c := by
  unfold Pipeline.ownSems0 zeros; rw [bigSep_jk]
/-- the one unscoped semaphore is the barrier's. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  unfold zeros
  iintro ⟨HZ, HB⟩
  isplitl [HB]; · iexact HB
  iexact HZ

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k : CI => semVal (kcell (c, k)) 0) ∗ bigSep Finset.univ fun k : CI => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- What stays with device `c`: its positions, and the tokens of the duties it pays. -/
def linear (c : Dev nD) : sProp 𝕄 := iprop((bigSep Finset.univ fun k : CI => atPos ER (kcell (c, k)) 0 ∅ 0) ∗ payToks c)

theorem ghost_intro (K : Dev nD × CI → ℕ) (c : Dev nD) : iprop(records m ρ K ∗ linear c) ⊢ G' m ρ c := by
  unfold linear payToks G' ghost
  rw [bigSep_CI]
  iintro ⟨HR, ⟨HaB, A0, A1, A2, A3⟩, ⟨HtY, HtX⟩, T0, T1, T2, T3⟩
  isplitl [HR]; · iexists K; iexact HR
  isplitl [HaB]; · iexact HaB
  isplitl [HtY]; · iexact HtY
  isplitl [HtX]; · iexact HtX
  isplitl [A0]; · iexact A0
  isplitl [A1]; · iexact A1
  isplitl [A2]; · iexact A2
  isplitl [A3]; · iexact A3
  isplitl [T0]; · iexact T0
  isplitl [T1]; · iexact T1
  isplitl [T2]; · iexact T2
  iexact T3

/-- The tokens dealt: of a barrier's two, one to each neighbour; of the two arrivals' cells, each to the neighbour that sends there. -/
theorem toks_around : (bigSep Finset.univ fun c : Dev nD => (toks c : sProp 𝕄)) ⊢ bigSep Finset.univ fun c : Dev nD => payToks c := by
  refine Entails.of_eq ?_
  unfold toks payToks
  simp only [bigSep_sep']
  rw [bigSep_univ_equiv yE (fun c : Dev nD => (dutyTok ER (barCell c) 0 false : sProp 𝕄)),
    bigSep_univ_equiv xE (fun c : Dev nD => (dutyTok ER (barCell c) 0 true : sProp 𝕄)),
    bigSep_univ_equiv yE (fun c : Dev nD => (toksL c 1 : sProp 𝕄)),
    bigSep_univ_equiv xE (fun c : Dev nD => (toksL c 3 : sProp 𝕄))]
  rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (rd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun k : CI => (atPos ER (kcell (c, k)) 0 ∅ 0 : sProp 𝕄)) payToks).symm)
    isplitl [Hat]; · iexact Hat
    iexact Htk

/-- Every device's cells put under their invariants, and the tokens exchanged. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem owing_at (e c : Dev nD) (j j' : Fin 4) (k : Fin 16) : ∀ l : List (Fin 16), l.Nodup →
    owing e j l (dcell c j' k) () = if e = c ∧ j = j' ∧ k ∈ l then N else 0
  | [], _ => by rw [if_neg (fun h => by simp at h)]; rfl
  | a :: l, hl => by
    rw [owing_cons, Pi.add_apply, Finsupp.add_apply, owing_at e c j j' k l (List.nodup_cons.mp hl).2, tallyAt_apply]
    by_cases h : e = c ∧ j = j'
    · obtain ⟨rfl, rfl⟩ := h
      by_cases ha : k = a
      · subst ha
        rw [if_neg (fun h => (List.nodup_cons.mp hl).1 h.2.2), if_pos ⟨rfl, rfl⟩, if_pos ⟨rfl, rfl, List.mem_cons_self⟩, Nat.zero_add]
      · rw [if_neg (c := dcell e j k = dcell e j a ∧ () = ()) (fun h => ha (dcell_inj h.1).2.2), Nat.add_zero]
        exact if_congr (by simp [ha]) rfl rfl
    · rw [if_neg (fun h' => h ⟨h'.1, h'.2.1⟩), if_neg (c := dcell c j' k = dcell e j a ∧ () = ()) (fun h' => h ⟨(dcell_inj h'.1).1.symm, (dcell_inj h'.1).2.1.symm⟩),
        if_neg (fun h' => h ⟨h'.1, h'.2.1⟩)]

theorem owing_slices (e c : Dev nD) (j j' : Fin 4) (k : Fin 16) : owing e j slices (dcell c j' k) () = if e = c ∧ j = j' then N else 0 :=
  (owing_at e c j j' k slices (by decide)).trans (if_congr (by have : k ∈ slices := by revert k; decide
                                                               simp [this]) rfl rfl)

theorem owing_bar (e c : Dev nD) (j : Fin 4) : ∀ l : List (Fin 16), owing e j l (barCell c) () = 0
  | [] => rfl
  | a :: l => by
    rw [owing_cons, Pi.add_apply, Finsupp.add_apply, owing_bar e c j l, tallyAt_ne_cell (bar_ne_dcell c e j a), Finsupp.zero_apply]; rfl

theorem eq_y {d c : Dev nD} : Iff (yN d = c) (d = yN c) := ⟨fun h => by rw [← h, yN_yN], fun h => by rw [h, yN_yN]⟩
theorem eq_x {d c : Dev nD} : Iff (xN d = c) (d = xN c) := ⟨fun h => by rw [← h, xN_xN], fun h => by rw [h, xN_xN]⟩

/-- What device `d` owes at a cell, summand by summand. -/
theorem owed_apply (d : Dev nD) (g : GSem nD τ sig) : O₀ d g ()
    = ((owing (xN d) 3 slices g () + owing (yN d) 1 slices g ()) + tallyAt (barCell (xN d)) () 1 g ()) + tallyAt (barCell (yN d)) () 1 g () := rfl

/-- Device `d` owes device `c`'s barrier a unit if it is a neighbour; -/
theorem owed_bar (d c : Dev nD) : O₀ d (barCell c) () = (if d = xN c then 1 else 0) + (if d = yN c then 1 else 0) := by
  rw [owed_apply, owing_bar, owing_bar, tallyAt_apply, tallyAt_apply, Nat.zero_add]
  exact congrArg₂ (· + ·)
    (if_congr ⟨fun h => eq_x.mp (barCell_inj h.1).symm, fun h => ⟨congrArg barCell (eq_x.mpr h).symm, rfl⟩⟩ rfl rfl)
    (if_congr ⟨fun h => eq_y.mp (barCell_inj h.1).symm, fun h => ⟨congrArg barCell (eq_y.mpr h).symm, rfl⟩⟩ rfl rfl)
/-- its first arrivals' cells one copy each if it is the one at the other `y`, -/
theorem owed_dma1 (d c : Dev nD) (k : Fin 16) : O₀ d (dcell c 1 k) () = if d = yN c then N else 0 := by
  rw [owed_apply, owing_slices, owing_slices, tallyAt_ne_cell (bar_ne_dcell _ _ _ _).symm, tallyAt_ne_cell (bar_ne_dcell _ _ _ _).symm,
    Finsupp.zero_apply, Nat.add_zero, Nat.add_zero, if_neg (fun h => absurd h.2 (by decide)), Nat.zero_add]
  exact if_congr ⟨fun h => eq_y.mp h.1, fun h => ⟨eq_y.mpr h, rfl⟩⟩ rfl rfl
/-- and its second arrivals' if it is the one at the other `x`. -/
theorem owed_dma3 (d c : Dev nD) (k : Fin 16) : O₀ d (dcell c 3 k) () = if d = xN c then N else 0 := by
  rw [owed_apply, owing_slices, owing_slices, tallyAt_ne_cell (bar_ne_dcell _ _ _ _).symm, tallyAt_ne_cell (bar_ne_dcell _ _ _ _).symm,
    Finsupp.zero_apply, Nat.add_zero, Nat.add_zero, if_neg (c := yN d = c ∧ (1 : Fin 4) = 3) (fun h => absurd h.2 (by decide)), Nat.add_zero]
  exact if_congr ⟨fun h => eq_x.mp h.1, fun h => ⟨eq_x.mpr h, rfl⟩⟩ rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xN c) fun _ => 1, Finset.sum_ite_eq' Finset.univ (yN c) fun _ => 1, if_pos (Finset.mem_univ _), if_pos (Finset.mem_univ _)]
theorem launch_dma1 (c : Dev nD) (k : Fin 16) :
    tallyOn (dcell c 1 k) (launchCredit (Pipeline.owing O₀) 0 (dcell c 1 k)) = (tallyAt (dcell c 1 k) () N : CellTallies nD τ sig Unit) := by
  unfold tallyAt; refine congrArg _ (Finsupp.ext fun u => ?_); cases u
  rw [Pipeline.launchCredit_owing, Finsupp.single_eq_same, Finset.sum_congr rfl fun d _ => owed_dma1 d c k, Finset.sum_ite_eq' Finset.univ (yN c) fun _ => N,
    if_pos (Finset.mem_univ _)]
theorem launch_dma3 (c : Dev nD) (k : Fin 16) :
    tallyOn (dcell c 3 k) (launchCredit (Pipeline.owing O₀) 0 (dcell c 3 k)) = (tallyAt (dcell c 3 k) () N : CellTallies nD τ sig Unit) := by
  unfold tallyAt; refine congrArg _ (Finsupp.ext fun u => ?_); cases u
  rw [Pipeline.launchCredit_owing, Finsupp.single_eq_same, Finset.sum_congr rfl fun d _ => owed_dma3 d c k, Finset.sum_ite_eq' Finset.univ (xN c) fun _ => N,
    if_pos (Finset.mem_univ _)]

theorem creds (c : Dev nD) : (Pipeline.launchCred O₀ c : sProp 𝕄) ⊢ credits c := by
  unfold Pipeline.launchCred credits
  refine BIBase.Entails.trans (bigSep_subset (Finset.subset_univ ((Finset.univ : Finset CI).map ⟨csem, csem_injective⟩))) ?_
  rw [bigSep_map, bigSep_CI]
  iintro ⟨HB, -, H1, -, H3⟩
  isplitl [HB]; · iapply (Entails.of_eq (congrArg cred (launch_bar c))); iexact HB
  isplitl [H1]
  · iapply (bigSepL_mono fun k _ => Entails.of_eq (congrArg cred (launch_dma1 c k))); iexact H1
  iapply (bigSepL_mono fun k _ => Entails.of_eq (congrArg cred (launch_dma3 c k))); iexact H3

/-! ## The theorem's side conditions -/

def start (c : Dev nD) : sProp 𝕄 := iprop(((∃ K, records m ρ K) ∗ ghost c) ∗ credits c ∗ levAts L lv)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem any_whole (c : Dev nD) (b : Ref sig .tc) :
    iprop(∃ f : Buf (Elt F) ((c : Thread nD τ).loc b), ((c : Thread nD τ).loc b) ↦{fullShare} f)
      = (iprop(∃ X, owns (c : Thread nD τ) (Memref.whole b) fullShare X) : sProp 𝕄) := by
  simp only [owns_whole]

theorem scr_eq (c : Dev nD) : (Pipeline.scopedRest cfg0.spec c : sProp 𝕄) = scr (F := F) c := by
  rw [scopedRest0_eq]; unfold scr anyOf
  rw [any_whole, any_whole, any_whole, any_whole]
  rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scr_eq]
  unfold Φ₀ start
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scr_eq, ownSems0_eq, unscopedSems0_eq]
  unfold Φ₁
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (staging_dec w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters, every weakly fair execution of @main on the four devices terminates, and in every
    final state each device's arrays hold the computed contents and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The two argument arrays after the run hold what they held. -/
theorem finalA_arg0 (c : Dev nD) : finalA m ρ c (0 : Fin 3) = (s₀ m ρ).mem (win0_0.arr.view.loc (c : Thread nD τ)) :=
  (dats (F := F) m ρ 0 c).arrAt_in (0 : Fin 3) rfl _
theorem finalA_arg1 (c : Dev nD) : finalA m ρ c (1 : Fin 3) = (s₀ m ρ).mem (win0_1.arr.view.loc (c : Thread nD τ)) :=
  (dats (F := F) m ρ 0 c).arrAt_in (1 : Fin 3) rfl _

/-- The two arguments after the run are unchanged and every counter is zero. -/
theorem run_frame : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨(h.1 c (0 : Fin 3)).trans (finalA_arg0 m ρ c), (h.1 c (1 : Fin 3)).trans (finalA_arg1 m ρ c)⟩, h.2⟩) (run_main m ρ)

end Cert.KernelIdealProof

end
-- ==== Proof.KernelIdeal.Value.lean ====
/-
  The value at the ideal numbers: every device's result array ends at `dy · wᵀ`, the contraction over the whole 4096.
  Each device's partial product contracts the half of the axis its `y` holds, the exchange along `y` adds the two
  halves in one order or the other, and the exchange along `x` joins the two halves of the rows.
-/
module

public import proofs.«01_k».proof.Defs
public import proofs.«01_k».proof.Proof.KernelIdeal.Launch
public import proofs.«01_k».proof.Proof.Gen.ReferenceIdeal.Run
public import Idealize.ShloMosaic.Lib.StackMember
public import Idealize.ShloMosaic.Lib.MatmulPlain
public import Idealize.ShloMosaic.Lib.Pointwise
public import Idealize.ShloMosaic.Lib.Pipeline.Value
public import Idealize.ShloMosaic.Lib.Quiescent

@[expose] public section

noncomputable section

namespace Cert.KernelIdealProof

open Cert.KernelIdeal Cert.KernelIdeal.Gen

open Idealize.ShloMosaic hiding ix2 eq_ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The whole `dy` or `w`. -/
local notation "Whole" => FVec Ideal ⟨2, ![512, 4096]⟩ FTy.f32

/-! ## The windows' one block is the whole array -/

theorem dyAt_eq (c : Dev nD) : dyAt m ρ c = m ((c : Thread nD τ).loc main_arg0) :=
  Memref.read_access_unit_zero (Elt Ideal) main_arg0 (funext fun a => by fin_cases a <;> decide)
    (fun a => by fin_cases a <;> decide) _

theorem wAt_eq (c : Dev nD) : wAt m ρ c = m ((c : Thread nD τ).loc main_arg1) :=
  Memref.read_access_unit_zero (Elt Ideal) main_arg1 (funext fun a => by fin_cases a <;> decide)
    (fun a => by fin_cases a <;> decide) _

/-- The result array after the run is what the body left in its staging buffer. -/
theorem finalA_out (c : Dev nD) : finalA m ρ c (2 : Fin 3) = outval m ρ c := by
  have hblk : (win0_2.blk (0 : Fin 1)).view.read (Elt Ideal) (finalA m ρ c (2 : Fin 3)) = outval m ρ c := by
    have hf : (cfg0.win (2 : Fin 3)).flush (0 : Fin 1) = true := by decide
    have hs := (dats m ρ 0 c).arrAt_succ (2 : Fin 3) (0 : Fin 1)
    rw [if_pos hf] at hs
    show (win0_2.blk (0 : Fin 1)).view.read (Elt Ideal) ((dats m ρ 0 c).arrAt (2 : Fin 3) (((0 : Fin 1) : Fin cfg0.N).val + 1)) = _
    rw [hs]
    exact View.read_write_univ _ _
  exact (Memref.read_access_unit_zero (Elt Ideal) main_v1 (funext fun a => by fin_cases a <;> decide)
    (fun a => by fin_cases a <;> decide) _).symm.trans hblk

/-! ## One device's partial product -/

/-- The kernel's product of a block of rows by the transpose of a block, read at an entry: the sum of the products. -/
theorem pay_apply (a : Vec Ideal S256x2048 .f32) (b : Vec Ideal S512x2048 .f32) (r : Fin 256) (n : Fin 512) :
    k0_pay1 a b (ix2 r n) = ∑ k : Fin 2048, a (ix2 r k) * b (ix2 n k) := by
  unfold k0_pay1
  rw [shapeCast_self, shapeCast_self, shapeCast_self]
  refine (Ideal.matmul_transposedRhs_apply none a b _ r n).trans ?_
  show Ideal.ofBits .f32 0x00000000#32 + _ = _
  rw [Ideal.ofBits_zero_f32, zero_add]

set_option backward.proofsInPublic true in
/-- The sum of the products over the half `y` of the contracted axis. -/
def half (X W : Whole) (y : Fin 2) (i j : Fin 512) : EReal :=
  ∑ k : Fin 2048, X (ix2 i ⟨2048 * y.val + k.val, by omega⟩) * W (ix2 j ⟨2048 * y.val + k.val, by omega⟩)

/-- What the launch deals: device `c` holds the columns of `X` and of `W` that its `y` names. -/
def Dealt (X W : Whole) : Prop := ∀ c : Dev nD,
  m ((c : Thread nD τ).loc main_arg0) = Layout.blockN ⟨2, ![512, 2048]⟩ ⟨2, ![512, 4096]⟩ (Layout.meshBlock [2, 2] ![[], [1]] c) X
    ∧ m ((c : Thread nD τ).loc main_arg1) = Layout.blockN ⟨2, ![512, 2048]⟩ ⟨2, ![512, 4096]⟩ (Layout.meshBlock [2, 2] ![[], [1]] c) W

/-- The `y` of a device, -/
abbrev yOf (c : Dev nD) : Fin 2 := ⟨c.val % 2, Nat.mod_lt _ (by decide)⟩

/-- the block of an array the device holds, read at an entry. -/
theorem block_apply (X : Whole) (c : Dev nD) (i : Fin 512) (k : Fin 2048) :
    (Layout.blockN ⟨2, ![512, 2048]⟩ ⟨2, ![512, 4096]⟩ (Layout.meshBlock [2, 2] ![[], [1]] c) X) (ix2 i k)
      = X (ix2 i ⟨2048 * (yOf c).val + k.val, by have := (yOf c).isLt; omega⟩) := by
  rw [Layout.blockN_apply]
  refine congrArg X (funext fun a => Fin.ext ?_)
  have h0 : Layout.meshLin [2, 2] c.val [] = 0 := rfl
  have h1 : Layout.meshLin [2, 2] c.val [1] = c.val % 2 := by revert c; decide
  match a with
  | 0 =>
    show Layout.meshLin [2, 2] c.val [] * 512 + i.val = i.val
    rw [h0]; omega
  | 1 =>
    show Layout.meshLin [2, 2] c.val [1] * 2048 + k.val = 2048 * (c.val % 2) + k.val
    rw [h1]; omega

variable {m} {X W : Whole}

set_option backward.proofsInPublic true in
/-- The row of the result that row `r` of device `c`'s half is. -/
def rowOf (c : Dev nD) (r : Fin 256) : Fin 512 := ⟨256 * (c.val / 2) + r.val, by have h : c.val < 4 := c.isLt; omega⟩

/-- A device's partial product is the half its `y` names, at the rows of its `x`. -/
theorem pval_apply (hd : Dealt m X W) (c : Dev nD) (r : Fin 256) (n : Fin 512) :
    pval m ρ c (ix2 r n) = half X W (yOf c) (rowOf c r) n := by
  unfold pval half
  rw [pay_apply]
  refine Finset.sum_congr rfl fun k _ => ?_
  have e : (dyR c).emb (ix2 r k) = ix2 (rowOf c r) k := by
    funext a; refine Fin.ext ?_
    match a with
    | 0 => rw [ValueKit.rect_emb_unit_val, congrFun (k0_off1_eq c) 0]; rfl
    | 1 => rw [ValueKit.rect_emb_unit_val, congrFun (k0_off1_eq c) 1]; exact Nat.zero_add _
  rw [dyAt_eq, wAt_eq, (hd c).1, (hd c).2]
  dsimp only
  rw [e, block_apply, block_apply]

/-- Its sum with the partial product at the other `y` is the two halves, in either order. -/
theorem qval_apply (hd : Dealt m X W) (c : Dev nD) (r : Fin 256) (n : Fin 512) :
    qval m ρ c (ix2 r n) = half X W 0 (rowOf c r) n + half X W 1 (rowOf c r) n := by
  show pval m ρ c (ix2 r n) + pval m ρ (yN c) (ix2 r n) = _
  have hx : rowOf (yN c) r = rowOf c r := by
    have h : (yN c).val / 2 = c.val / 2 := by revert c; decide
    exact Fin.ext (by show 256 * ((yN c).val / 2) + r.val = 256 * (c.val / 2) + r.val; rw [h])
  rw [pval_apply ρ hd, pval_apply ρ hd, hx]
  have hy : (yOf c = 0 ∧ yOf (yN c) = 1) ∨ (yOf c = 1 ∧ yOf (yN c) = 0) := by clear hx; revert c; decide
  rcases hy with ⟨h, h'⟩ | ⟨h, h'⟩
  · rw [h, h']
  · rw [h, h', add_comm]

/-! ## The result -/

/-- The reference's product, `X · Wᵀ`. -/
abbrev refOut (X W : Whole) : FVec Ideal ⟨2, ![512, 512]⟩ .f32 :=
  Host.dotGeneral Cert.ReferenceIdeal.dot_S512x4096_S4096x512_S512x512_1_0_0_1_n_n none X
    (transpose Cert.ReferenceIdeal.S4096x512 [1, 0] W Cert.ReferenceIdeal.Gen.transposes_S512x4096_S4096x512_1_0)

/-- An entry of it is the sum over the first half of the contracted axis and the sum over the second. -/
theorem refOut_apply (i j : Fin 512) : refOut X W (ix2 i j) = half X W 0 i j + half X W 1 i j := by
  refine (StackMember.dotGeneral_plain_apply none X _ i j).trans ?_
  have ht : ∀ k : Fin 4096, (transpose Cert.ReferenceIdeal.S4096x512 [1, 0] W
      Cert.ReferenceIdeal.Gen.transposes_S512x4096_S4096x512_1_0) (ix2 k j) = W (ix2 j k) := fun k =>
    transpose_apply _ _ _ _ _ fun b => by
      match b with
      | 0 => rfl
      | 1 => rfl
  refine (Finset.sum_congr rfl fun k _ => congrArg (X (ix2 i k) * ·) (ht k)).trans ?_
  rw [Fin.sum_univ_two_halves 2048 2048 rfl]
  unfold half
  refine congrArg₂ (· + ·) (Finset.sum_congr rfl fun k _ => ?_) rfl
  have e : (⟨k.val, by omega⟩ : Fin 4096) = ⟨2048 * (0 : Fin 2).val + k.val, by omega⟩ := Fin.ext (by simp)
  rw [e]

/-- Every device's result is the reference's. -/
theorem outval_eq (hd : Dealt m X W) (c : Dev nD) : outval m ρ c = refOut X W := by
  funext i
  obtain ⟨r, n, rfl⟩ : ∃ (r n : Fin 512), i = ix2 r n := ⟨i 0, i 1, eq_ix2 i⟩
  have er : rowOf (atX c (r.val / 256)) ⟨r.val % 256, Nat.mod_lt _ (by decide)⟩ = r := by
    refine Fin.ext ?_
    show 256 * ((2 * (r.val / 256 % 2) + c.val % 2) / 2) + r.val % 256 = r.val
    omega
  have e : inX (ix2 r n) = ix2 ⟨r.val % 256, Nat.mod_lt _ (by decide)⟩ n := eq_ix2 _
  show qval m ρ (atX c (r.val / 256)) (inX (ix2 r n)) = _
  rw [e, qval_apply ρ hd, er, refOut_apply]

/-! ## The claims -/

/-- The reference ends with its arguments as they were and its counters at zero: it has no semaphore. -/
theorem frame_reference : Cert.quiescent_ReferenceIdeal := by
  intro m g _
  exact (θ_run Cert.ReferenceIdeal.defs _ _).mono
    (fun r h => ⟨fun c => (h c).2, sem_eq_zero_of_no_sems (by decide) r.2⟩) (Cert.ReferenceIdeal.Value.run m g)

/-- The kernel's result, on every device, is the reference's `dy · wᵀ`. -/
theorem value : Cert.algebraic_KernelIdeal_ReferenceIdeal := by
  intro m g m' g' _ hd
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run defs _ _).mono (fun r h c =>
      ⟨((h.1 c (2 : Fin 3)).trans (finalA_out m g c)).trans (outval_eq g hd c),
        (h.1 c (0 : Fin 3)).trans (finalA_arg0 m g c), (h.1 c (1 : Fin 3)).trans (finalA_arg1 m g c)⟩) (run_main m g)
  · exact (θ_run Cert.ReferenceIdeal.defs _ _).mono (fun r h => h 0) (Cert.ReferenceIdeal.Value.run m' g')

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Value
public import Idealize.ShloMosaic.Adequacy
public import Idealize.ShloMosaic.Init

@[expose] public section

noncomputable section

namespace Cert.Proof

open Idealize.ShloMosaic Idealize.SL.Sem Cert.Kernel

/-- All five claims. The kernel, on its bits and on the ideal numbers, ends with its arguments as they were and its
    counters at zero; so does the reference; and on every device the kernel's result is the reference's. -/
theorem claim : Cert.Claim := ⟨Cert.Kernel.Gen.facts, Cert.KernelIdeal.Gen.facts, Cert.ReferenceIdeal.Gen.facts,
  fun m g _ => Cert.KernelProof.run_frame m g,
  fun m g _ => Cert.KernelIdealProof.run_frame m g,
  Cert.KernelIdealProof.frame_reference,
  trivial,
  Cert.KernelIdealProof.value⟩

end Cert.Proof

end
